-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S544x1024 : Shape := ⟨2, ![544, 1024]⟩
abbrev S512x1024 : Shape := ⟨2, ![512, 1024]⟩
abbrev S9 : Shape := ⟨1, ![9]⟩
abbrev S8 : Shape := ⟨1, ![8]⟩
abbrev S_ : Shape := ⟨0, ![]⟩
abbrev S1x64x1024 : Shape := ⟨3, ![1, 64, 1024]⟩
abbrev S64x1024 : Shape := ⟨2, ![64, 1024]⟩
abbrev S1 : Shape := ⟨1, ![1]⟩
abbrev S1x32x1024 : Shape := ⟨3, ![1, 32, 1024]⟩
abbrev S32x1024 : Shape := ⟨2, ![32, 1024]⟩
abbrev S64 : Shape := ⟨1, ![64]⟩
abbrev S64x1 : Shape := ⟨2, ![64, 1]⟩
abbrev S1x1024 : Shape := ⟨2, ![1, 1024]⟩
abbrev S32 : Shape := ⟨1, ![32]⟩
abbrev S32x1 : Shape := ⟨2, ![32, 1]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x1024, .bf16⟩
  | .hbm, ⟨1, _⟩ => ⟨S1024, .bf16⟩
  | .hbm, ⟨2, _⟩ => ⟨S1024x1024, .f32⟩
  | .local _ .vmem, ⟨0, _⟩ => ⟨S1x2048x1024, .bf16⟩
  | .local _ .vmem, ⟨1, _⟩ => ⟨S1024, .bf16⟩
  | .local _ .vmem, ⟨2, _⟩ => ⟨S1024x1024, .f32⟩
  | .local _ .vmem, ⟨3, _⟩ => ⟨S544x1024, .bf16⟩
  | .local _ .vmem, ⟨4, _⟩ => ⟨S544x1024, .bf16⟩
  | .local _ .vmem, ⟨5, _⟩ => ⟨S512x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 2 37 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 3 → Nat :=
  let c0 : Index := 0#32
  let c1_i32_13 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_13 v5
  let c1024_i32 : BitVec 32 := 1024#32
  let v25 : BitVec 32 := Scalar.muli v24 c1024_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v26 : BitVec 32 := Scalar.muli v2 c512_i32
  let v27 : BitVec 32 := Scalar.addi v25 v26
  let v34 : Index := Scalar.indexCast v27
  let c0_18 : Index := 0#32
  ![0, v34.toNat, 0]
def k0_dev3 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v40 : BitVec 32 := Scalar.muli v2 c8_i32_24
  let v41 : BitVec 32 := Scalar.addi c0_i32_25 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_26 : BitVec 32 := 4#32
  let v42 : BitVec 32 := Scalar.muli v9 c4_i32_26
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v44 : BitVec 32 := Scalar.muli v8 c1_i32_27
  let v45 : BitVec 32 := Scalar.addi v43 v44
  v45.toNat
def k0_off2 (d0 : Dev nD) (c64_i32 : BitVec 32) : Fin 3 → Nat :=
  let c0_32 : Index := 0#32
  let c1_i32_13 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_13 v5
  let c1024_i32 : BitVec 32 := 1024#32
  let v25 : BitVec 32 := Scalar.muli v24 c1024_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v26 : BitVec 32 := Scalar.muli v2 c512_i32
  let v27 : BitVec 32 := Scalar.addi v25 v26
  let v52 : BitVec 32 := Scalar.addi v27 c64_i32
  let v53 : Index := Scalar.indexCast v52
  let c0_33 : Index := 0#32
  ![0, v53.toNat, 0]
def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v59 : BitVec 32 := Scalar.muli v2 c8_i32_37
  let v60 : BitVec 32 := Scalar.addi c0_i32_38 v59
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v61 : BitVec 32 := Scalar.muli v9 c4_i32_39
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v63 : BitVec 32 := Scalar.muli v8 c1_i32_40
  let v64 : BitVec 32 := Scalar.addi v62 v63
  v64.toNat
def k0_dev5 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v78 : BitVec 32 := Scalar.muli v2 c8_i32_50
  let v79 : BitVec 32 := Scalar.addi c0_i32_51 v78
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v80 : BitVec 32 := Scalar.muli v9 c4_i32_52
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v82 : BitVec 32 := Scalar.muli v8 c1_i32_53
  let v83 : BitVec 32 := Scalar.addi v81 v82
  v83.toNat
def k0_dev6 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v97 : BitVec 32 := Scalar.muli v2 c8_i32_62
  let v98 : BitVec 32 := Scalar.addi c0_i32_63 v97
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_64 : BitVec 32 := 4#32
  let v99 : BitVec 32 := Scalar.muli v9 c4_i32_64
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v101 : BitVec 32 := Scalar.muli v8 c1_i32_65
  let v102 : BitVec 32 := Scalar.addi v100 v101
  v102.toNat
def k0_dev7 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v116 : BitVec 32 := Scalar.muli v2 c8_i32_75
  let v117 : BitVec 32 := Scalar.addi c0_i32_76 v116
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_77 : BitVec 32 := 4#32
  let v118 : BitVec 32 := Scalar.muli v9 c4_i32_77
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v120 : BitVec 32 := Scalar.muli v8 c1_i32_78
  let v121 : BitVec 32 := Scalar.addi v119 v120
  v121.toNat
def k0_dev8 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v135 : BitVec 32 := Scalar.muli v2 c8_i32_87
  let v136 : BitVec 32 := Scalar.addi c0_i32_88 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_89 : BitVec 32 := 4#32
  let v137 : BitVec 32 := Scalar.muli v9 c4_i32_89
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v139 : BitVec 32 := Scalar.muli v8 c1_i32_90
  let v140 : BitVec 32 := Scalar.addi v138 v139
  v140.toNat
def k0_dev9 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v154 : BitVec 32 := Scalar.muli v2 c8_i32_99
  let v155 : BitVec 32 := Scalar.addi c0_i32_100 v154
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_101 : BitVec 32 := 4#32
  let v156 : BitVec 32 := Scalar.muli v9 c4_i32_101
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v158 : BitVec 32 := Scalar.muli v8 c1_i32_102
  let v159 : BitVec 32 := Scalar.addi v157 v158
  v159.toNat
def k0_dev10 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v173 : BitVec 32 := Scalar.muli v2 c8_i32_111
  let v174 : BitVec 32 := Scalar.addi c0_i32_112 v173
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_113 : BitVec 32 := 4#32
  let v175 : BitVec 32 := Scalar.muli v9 c4_i32_113
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v177 : BitVec 32 := Scalar.muli v8 c1_i32_114
  let v178 : BitVec 32 := Scalar.addi v176 v177
  v178.toNat
def k0_off3 (d0 : Dev nD) : Fin 3 → Nat :=
  let c0_119 : Index := 0#32
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_14 v5
  let c1024_i32_15 : BitVec 32 := 1024#32
  let v29 : BitVec 32 := Scalar.muli v28 c1024_i32_15
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_16 v2
  let c512_i32_17 : BitVec 32 := 512#32
  let v31 : BitVec 32 := Scalar.muli v30 c512_i32_17
  let v32 : BitVec 32 := Scalar.addi v29 v31
  let c480_i32 : BitVec 32 := 480#32
  let v33 : BitVec 32 := Scalar.addi v32 c480_i32
  let v185 : Index := Scalar.indexCast v33
  let c0_120 : Index := 0#32
  ![0, v185.toNat, 0]
def k0_dev11 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v191 : BitVec 32 := Scalar.muli v2 c8_i32_124
  let v192 : BitVec 32 := Scalar.addi c0_i32_125 v191
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_126 : BitVec 32 := 4#32
  let v193 : BitVec 32 := Scalar.muli v9 c4_i32_126
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v195 : BitVec 32 := Scalar.muli v8 c1_i32_127
  let v196 : BitVec 32 := Scalar.addi v194 v195
  v196.toNat
def k0_dev12 (d0 : Dev nD) : Nat :=
  let c0_i32_151 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_150 : BitVec 32 := 8#32
  let v217 : BitVec 32 := Scalar.muli v10 c8_i32_150
  let v218 : BitVec 32 := Scalar.addi c0_i32_151 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_152 : BitVec 32 := 4#32
  let v219 : BitVec 32 := Scalar.muli v5 c4_i32_152
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v221 : BitVec 32 := Scalar.muli v8 c1_i32_153
  let v222 : BitVec 32 := Scalar.addi v220 v221
  v222.toNat
def k0_off4 (d0 : Dev nD) (c0_i32_158 : BitVec 32) : Fin 3 → Nat :=
  let c0_159 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_132 : BitVec 32 := 1024#32
  let v203 : BitVec 32 := Scalar.muli v5 c1024_i32_132
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_133 : BitVec 32 := 512#32
  let v204 : BitVec 32 := Scalar.muli v2 c512_i32_133
  let v229 : BitVec 32 := Scalar.addi v203 v204
  let v230 : BitVec 32 := Scalar.addi v229 c0_i32_158
  let v231 : Index := Scalar.indexCast v230
  let c0_160 : Index := 0#32
  ![0, v231.toNat, 0]
def k0_off5 (d0 : Dev nD) (c0_i32_166 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_133 : BitVec 32 := 512#32
  let v204 : BitVec 32 := Scalar.muli v2 c512_i32_133
  let v254 : BitVec 32 := Scalar.addi v204 c0_i32_166
  let v255 : Index := Scalar.indexCast v254
  let c0_167 : Index := 0#32
  ![v255.toNat, 0]
def k0_dev13 (d0 : Dev nD) : Nat :=
  let c0_i32_181 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_180 : BitVec 32 := 8#32
  let v267 : BitVec 32 := Scalar.muli v10 c8_i32_180
  let v268 : BitVec 32 := Scalar.addi c0_i32_181 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_182 : BitVec 32 := 4#32
  let v269 : BitVec 32 := Scalar.muli v5 c4_i32_182
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v271 : BitVec 32 := Scalar.muli v8 c1_i32_183
  let v272 : BitVec 32 := Scalar.addi v270 v271
  v272.toNat
def k0_dev14 (d0 : Dev nD) : Nat :=
  let c0_i32_212 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_211 : BitVec 32 := 8#32
  let v317 : BitVec 32 := Scalar.muli v10 c8_i32_211
  let v318 : BitVec 32 := Scalar.addi c0_i32_212 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_213 : BitVec 32 := 4#32
  let v319 : BitVec 32 := Scalar.muli v5 c4_i32_213
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v321 : BitVec 32 := Scalar.muli v8 c1_i32_214
  let v322 : BitVec 32 := Scalar.addi v320 v321
  v322.toNat
def k0_dev15 (d0 : Dev nD) : Nat :=
  let c0_i32_243 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_242 : BitVec 32 := 8#32
  let v367 : BitVec 32 := Scalar.muli v10 c8_i32_242
  let v368 : BitVec 32 := Scalar.addi c0_i32_243 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v369 : BitVec 32 := Scalar.muli v5 c4_i32_244
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v371 : BitVec 32 := Scalar.muli v8 c1_i32_245
  let v372 : BitVec 32 := Scalar.addi v370 v371
  v372.toNat
def k0_dev16 (d0 : Dev nD) : Nat :=
  let c0_i32_274 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_273 : BitVec 32 := 8#32
  let v417 : BitVec 32 := Scalar.muli v10 c8_i32_273
  let v418 : BitVec 32 := Scalar.addi c0_i32_274 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_275 : BitVec 32 := 4#32
  let v419 : BitVec 32 := Scalar.muli v5 c4_i32_275
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v421 : BitVec 32 := Scalar.muli v8 c1_i32_276
  let v422 : BitVec 32 := Scalar.addi v420 v421
  v422.toNat
def k0_dev17 (d0 : Dev nD) : Nat :=
  let c0_i32_305 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_304 : BitVec 32 := 8#32
  let v467 : BitVec 32 := Scalar.muli v10 c8_i32_304
  let v468 : BitVec 32 := Scalar.addi c0_i32_305 v467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_306 : BitVec 32 := 4#32
  let v469 : BitVec 32 := Scalar.muli v5 c4_i32_306
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v471 : BitVec 32 := Scalar.muli v8 c1_i32_307
  let v472 : BitVec 32 := Scalar.addi v470 v471
  v472.toNat
def k0_dev18 (d0 : Dev nD) : Nat :=
  let c0_i32_336 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_335 : BitVec 32 := 8#32
  let v517 : BitVec 32 := Scalar.muli v10 c8_i32_335
  let v518 : BitVec 32 := Scalar.addi c0_i32_336 v517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v519 : BitVec 32 := Scalar.muli v5 c4_i32_337
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v521 : BitVec 32 := Scalar.muli v8 c1_i32_338
  let v522 : BitVec 32 := Scalar.addi v520 v521
  v522.toNat
def k0_dev19 (d0 : Dev nD) : Nat :=
  let c0_i32_367 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_366 : BitVec 32 := 8#32
  let v567 : BitVec 32 := Scalar.muli v10 c8_i32_366
  let v568 : BitVec 32 := Scalar.addi c0_i32_367 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v569 : BitVec 32 := Scalar.muli v5 c4_i32_368
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_369 : BitVec 32 := 1#32
  let v571 : BitVec 32 := Scalar.muli v8 c1_i32_369
  let v572 : BitVec 32 := Scalar.addi v570 v571
  v572.toNat
def k0_off6 (d0 : Dev nD) : Fin 3 → Nat :=
  let c0_398 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_132 : BitVec 32 := 1024#32
  let v203 : BitVec 32 := Scalar.muli v5 c1024_i32_132
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let c512_i32_395 : BitVec 32 := 512#32
  let v617 : BitVec 32 := Scalar.subi v206 c512_i32_395
  let c480_i32_396 : BitVec 32 := 480#32
  let v618 : BitVec 32 := Scalar.addi v617 c480_i32_396
  let v619 : BitVec 32 := Scalar.addi v203 v618
  let c512_i32_397 : BitVec 32 := 512#32
  let v620 : BitVec 32 := Scalar.addi v619 c512_i32_397
  let v621 : Index := Scalar.indexCast v620
  let c0_399 : Index := 0#32
  ![0, v621.toNat, 0]
def k0_off7 (d0 : Dev nD) : Fin 2 → Nat :=
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let c512_i32_395 : BitVec 32 := 512#32
  let v617 : BitVec 32 := Scalar.subi v206 c512_i32_395
  let c480_i32_396 : BitVec 32 := 480#32
  let v618 : BitVec 32 := Scalar.addi v617 c480_i32_396
  let c512_i32_406 : BitVec 32 := 512#32
  let v644 : BitVec 32 := Scalar.addi v618 c512_i32_406
  let v645 : Index := Scalar.indexCast v644
  let c0_407 : Index := 0#32
  ![v645.toNat, 0]
def k0_off8 (d0 : Dev nD) (c0_i32_418 : BitVec 32) : Fin 3 → Nat :=
  let c0_419 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_132 : BitVec 32 := 1024#32
  let v203 : BitVec 32 := Scalar.muli v5 c1024_i32_132
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let v657 : BitVec 32 := Scalar.addi v203 v206
  let v658 : BitVec 32 := Scalar.addi v657 c0_i32_418
  let v659 : Index := Scalar.indexCast v658
  let c0_420 : Index := 0#32
  ![0, v659.toNat, 0]
def k0_off9 (d0 : Dev nD) (c0_i32_427 : BitVec 32) : Fin 2 → Nat :=
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let v682 : BitVec 32 := Scalar.addi v206 c0_i32_427
  let v683 : Index := Scalar.indexCast v682
  let c0_428 : Index := 0#32
  ![v683.toNat, 0]
def k0_off10 (d0 : Dev nD) : Fin 3 → Nat :=
  let c0_566 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_132 : BitVec 32 := 1024#32
  let v203 : BitVec 32 := Scalar.muli v5 c1024_i32_132
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let v923 : BitVec 32 := Scalar.addi v203 v206
  let c448_i32_565 : BitVec 32 := 448#32
  let v924 : BitVec 32 := Scalar.addi v923 c448_i32_565
  let v925 : Index := Scalar.indexCast v924
  let c0_567 : Index := 0#32
  ![0, v925.toNat, 0]
def k0_off11 (d0 : Dev nD) : Fin 2 → Nat :=
  let c1_i32_134 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v205 : BitVec 32 := Scalar.subi c1_i32_134 v2
  let c512_i32_135 : BitVec 32 := 512#32
  let v206 : BitVec 32 := Scalar.muli v205 c512_i32_135
  let c448_i32_574 : BitVec 32 := 448#32
  let v948 : BitVec 32 := Scalar.addi v206 c448_i32_574
  let v949 : Index := Scalar.indexCast v948
  let c0_575 : Index := 0#32
  ![v949.toNat, 0]
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024, .bf16⟩
  | .hbm, ⟨2, _⟩ => ⟨S2x2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Program.lean ====
/-
# The kernel's body as loops

The printed body is straight-line: nine chunks stored and sent to the device across the y axis, eight of them
normalised on arrival while half is passed on across the x axis, then a tail, then eight chunks arriving across x.
Here the same sequence is written with its repetitions as folds over the chunk's number, and shown to be the
printed one by definitional unfolding.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL.Sem

variable {F : FTy → Type} [FloatOps F]

/-! ## Shapes, buffers, semaphores -/

abbrev sh2 (z : ℕ) : Shape := ⟨2, ![z, 1024]⟩
abbrev sh3 (z : ℕ) : Shape := ⟨3, ![1, z, 1024]⟩

abbrev pM : Memref sig .tc .vmem S1x2048x1024 .bf16 := Memref.whole cc0_stg0_0
abbrev gM : Memref sig .tc .vmem S1024 .bf16 := Memref.whole cc0_stg1_0
abbrev oM : Memref sig .tc .vmem S1024x1024 .f32 := Memref.whole cc0_stg2_0
/-- Chunks to send across y, chunks received across y, chunks received across x. -/
abbrev sM : Memref sig .tc .vmem S544x1024 .bf16 := Memref.whole cc0_scratch0
abbrev rM : Memref sig .tc .vmem S544x1024 .bf16 := Memref.whole cc0_scratch1
abbrev xM : Memref sig .tc .vmem S512x1024 .bf16 := Memref.whole cc0_scratch2

/-- The semaphore of the mesh's barrier, and the one the device across x signals once. -/
abbrev barS : Sem sig := (SemArray.scalar (sig.barrier 0 rfl) : Sems sig S_).sem
abbrev rdyS : Sem sig := cc0_scratch7.sem

theorem inb9 : ∀ k : Fin 9, ∀ a, (![k.val] : Fin 1 → ℕ) a + S1.size a ≤ S9.size a := by decide
theorem inb8 : ∀ k : Fin 8, ∀ a, (![k.val] : Fin 1 → ℕ) a + S1.size a ≤ S8.size a := by decide
/-- The semaphore of chunk `k` in an array of nine, of eight. -/
abbrev sem9 (A : DmaSems sig S9) (k : Fin 9) : DmaSem sig :=
  ((A.slice (Rect.unit (s := S9) ![k.val] S1.size (inb9 k))).squeeze S_ squeezes_S1_S_).sem
abbrev sem8 (A : DmaSems sig S8) (k : Fin 8) : DmaSem sig :=
  ((A.slice (Rect.unit (s := S8) ![k.val] S1.size (inb8 k))).squeeze S_ squeezes_S1_S_).sem

/-! ## Chunks -/

/-- Rows of a chunk sent across y: 64, the ninth 32. -/
abbrev yz (k : Fin 9) : ℕ := if k.val = 8 then 32 else 64
/-- Rows of a chunk passed on across x: 64, the eighth 32. -/
abbrev xz (k : Fin 8) : ℕ := if k.val = 7 then 32 else 64

/-- What the operations of a chunk of `z` rows ask of `z`. -/
structure Chunk (z : ℕ) : Prop where
  pos3 : 0 < (sh3 z).numel
  pos2 : 0 < (sh2 z).numel
  cast32 : (sh3 z).ShapeCasts (sh2 z)
  cast22 : (sh2 z).ShapeCasts (sh2 z)
  red : (sh2 z).Reduces [1] ⟨1, ![z]⟩
  cast12 : (⟨1, ![z]⟩ : Shape).ShapeCasts ⟨2, ![z, 1]⟩
  cols : (⟨2, ![z, 1]⟩ : Shape).Broadcasts (sh2 z)
  rows : S1x1024.Broadcasts (sh2 z)

theorem chunk64 : Chunk 64 :=
  ⟨h_S1x64x1024, h_S64x1024, shapeCasts_S1x64x1024_S64x1024, shapeCasts_S64x1024_S64x1024, reduces_S64x1024_S64,
    shapeCasts_S64_S64x1, broadcasts_S64x1_S64x1024, broadcasts_S1x1024_S64x1024⟩
theorem chunk32 : Chunk 32 :=
  ⟨h_S1x32x1024, h_S32x1024, shapeCasts_S1x32x1024_S32x1024, shapeCasts_S32x1024_S32x1024, reduces_S32x1024_S32,
    shapeCasts_S32_S32x1, broadcasts_S32x1_S32x1024, broadcasts_S1x1024_S32x1024⟩
theorem chunkY (k : Fin 9) : Chunk (yz k) := by unfold yz; split; exacts [chunk32, chunk64]
theorem chunkX (k : Fin 8) : Chunk (xz k) := by unfold xz; split; exacts [chunk32, chunk64]

theorem inY : ∀ k : Fin 9, ∀ a, (![64 * k.val, 0] : Fin 2 → ℕ) a + (sh2 (yz k)).size a ≤ S544x1024.size a := by decide
theorem inX : ∀ k : Fin 8, ∀ a, (![64 * k.val, 0] : Fin 2 → ℕ) a + (sh2 (xz k)).size a ≤ S512x1024.size a := by decide
theorem inXY : ∀ k : Fin 8, ∀ a, (![64 * k.val, 0] : Fin 2 → ℕ) a + (sh2 (xz k)).size a ≤ S544x1024.size a := by decide

/-- Chunk `k`'s rows of the buffers across y; the rows of it passed on across x, in the buffer they come from and in
    the one they go to. -/
abbrev yR (k : Fin 9) : Rect S544x1024 := Rect.unit (s := S544x1024) ![64 * k.val, 0] (sh2 (yz k)).size (inY k)
abbrev xyR (k : Fin 8) : Rect S544x1024 := Rect.unit (s := S544x1024) ![64 * k.val, 0] (sh2 (xz k)).size (inXY k)
abbrev xR (k : Fin 8) : Rect S512x1024 := Rect.unit (s := S512x1024) ![64 * k.val, 0] (sh2 (xz k)).size (inX k)

abbrev sY (k : Fin 9) : Memref sig .tc .vmem (sh2 (yz k)) .bf16 := sM.slice (yR k) (fun _ => rfl)
abbrev rY (k : Fin 9) : Memref sig .tc .vmem (sh2 (yz k)) .bf16 := rM.slice (yR k) (fun _ => rfl)
abbrev rX (k : Fin 8) : Memref sig .tc .vmem (sh2 (xz k)) .bf16 := rM.slice (xyR k) (fun _ => rfl)
abbrev xX (k : Fin 8) : Memref sig .tc .vmem (sh2 (xz k)) .bf16 := xM.slice (xR k) (fun _ => rfl)

theorem packedY : ∀ k : Fin 9, (yR k).PackedRows (EltTy.packing .bf16) := fun k => by
  fin_cases k
  exacts [packedbf16_S544x1024_S64x1024_0_0, packedbf16_S544x1024_S64x1024_64_0, packedbf16_S544x1024_S64x1024_128_0,
    packedbf16_S544x1024_S64x1024_192_0, packedbf16_S544x1024_S64x1024_256_0, packedbf16_S544x1024_S64x1024_320_0,
    packedbf16_S544x1024_S64x1024_384_0, packedbf16_S544x1024_S64x1024_448_0, packedbf16_S544x1024_S32x1024_512_0]
theorem wordsY : ∀ k : Fin 9, (yR k).WholeWords (EltTy.packing .bf16) := fun k => by
  fin_cases k
  exacts [wordsbf16_S544x1024_S64x1024_0_0, wordsbf16_S544x1024_S64x1024_64_0, wordsbf16_S544x1024_S64x1024_128_0,
    wordsbf16_S544x1024_S64x1024_192_0, wordsbf16_S544x1024_S64x1024_256_0, wordsbf16_S544x1024_S64x1024_320_0,
    wordsbf16_S544x1024_S64x1024_384_0, wordsbf16_S544x1024_S64x1024_448_0, wordsbf16_S544x1024_S32x1024_512_0]
theorem wordsXY : ∀ k : Fin 8, (xyR k).WholeWords (EltTy.packing .bf16) := fun k => by
  fin_cases k
  exacts [wordsbf16_S544x1024_S64x1024_0_0, wordsbf16_S544x1024_S64x1024_64_0, wordsbf16_S544x1024_S64x1024_128_0,
    wordsbf16_S544x1024_S64x1024_192_0, wordsbf16_S544x1024_S64x1024_256_0, wordsbf16_S544x1024_S64x1024_320_0,
    wordsbf16_S544x1024_S64x1024_384_0, wordsbf16_S544x1024_S32x1024_448_0]
theorem wordsX : ∀ k : Fin 8, (xR k).WholeWords (EltTy.packing .bf16) := fun k => by
  fin_cases k
  exacts [wordsbf16_S512x1024_S64x1024_0_0, wordsbf16_S512x1024_S64x1024_64_0, wordsbf16_S512x1024_S64x1024_128_0,
    wordsbf16_S512x1024_S64x1024_192_0, wordsbf16_S512x1024_S64x1024_256_0, wordsbf16_S512x1024_S64x1024_320_0,
    wordsbf16_S512x1024_S64x1024_384_0, wordsbf16_S512x1024_S32x1024_448_0]

/-! ## Offsets computed from the device -/

/-- Where chunk `k` sent across y starts in the device's own array. -/
abbrev srcOff (c : Dev nD) (k : Fin 9) : Fin 3 → ℕ :=
  if k.val = 0 then k0_off1 c else if k.val = 8 then k0_off3 c else k0_off2 c (BitVec.ofNat 32 (64 * k.val))

theorem srcOff_inb (c : Dev nD) (k : Fin 9) : ∀ a, srcOff c k a + (sh3 (yz k)).size a ≤ S1x2048x1024.size a := by
  revert c k; decide +kernel

/-- Where the addends and the results of a normalised chunk start: the chunks kept from y, the tail, the chunks from x. -/
abbrev dirP (c : Dev nD) (k : Fin 8) : Fin 3 → ℕ := k0_off4 c (BitVec.ofNat 32 (64 * k.val))
abbrev dirO (c : Dev nD) (k : Fin 8) : Fin 2 → ℕ := k0_off5 c (BitVec.ofNat 32 (64 * k.val))
abbrev othP (c : Dev nD) (k : Fin 8) : Fin 3 → ℕ := if k.val = 7 then k0_off10 c else k0_off8 c (BitVec.ofNat 32 (64 * k.val))
abbrev othO (c : Dev nD) (k : Fin 8) : Fin 2 → ℕ := if k.val = 7 then k0_off11 c else k0_off9 c (BitVec.ofNat 32 (64 * k.val))

theorem othP_inb (c : Dev nD) (k : Fin 8) : ∀ a, othP c k a + (sh3 (xz k)).size a ≤ S1x2048x1024.size a := by
  revert c k; decide +kernel
theorem othO_inb (c : Dev nD) (k : Fin 8) : ∀ a, othO c k a + (sh2 (xz k)).size a ≤ S1024x1024.size a := by
  revert c k; decide +kernel

/-! ## The steps -/

/-- A chunk of `z` rows read as a matrix: what is stored to be sent. -/
def plain (z : ℕ) (h : Chunk z) (v : Vec F (sh3 z) .bf16) : FVec F (sh2 z) .bf16 :=
  shapeCast (sh2 z) (shapeCast (sh2 z) v h.cast32) h.cast22

/-- The two addends' sum. -/
def total (z : ℕ) (h : Chunk z) (v : Vec F (sh3 z) .bf16) (w : Vec F (sh2 z) .bf16) : FVec F (sh2 z) .f32 :=
  addf (extf .f32 (shapeCast (sh2 z) v h.cast32) bitsLt_bf16_f32) (extf .f32 w bitsLt_bf16_f32)

/-- The normalised chunk: the sum times the reciprocal root of its rows' mean square, times the gain. -/
def norm (z : ℕ) (h : Chunk z) (v : Vec F (sh3 z) .bf16) (w : Vec F (sh2 z) .bf16) (g : Vec F S1024 .bf16) : FVec F (sh2 z) .f32 :=
  mulf (mulf (total z h v w) (broadcastTo (sh2 z) (rsqrt (addf (divf (shapeCast ⟨2, ![z, 1]⟩
      (multiReduction .add [1] ⟨1, ![z]⟩ (mulf (total z h v w) (total z h v w)) 0x00000000#32 h.red (.inl rfl) rfl) h.cast12)
      (broadcast ⟨2, ![z, 1]⟩ (Scalar.ofBits .f32 0x44800000#32))) (broadcast ⟨2, ![z, 1]⟩ (Scalar.ofBits .f32 0x358637BD#32)))) h.cols))
    (broadcastTo (sh2 z) (extf .f32 (shapeCast S1x1024 (shapeCast S1024 g shapeCasts_S1024_S1024) shapeCasts_S1024_S1x1024) bitsLt_bf16_f32) h.rows)

abbrev Body : Type 1 := Prog (TpuEff nD τ sig (Elt F) Λ₀ .tc) PUnit

variable (c : Dev nD)

def storeStep (k : Fin 9) (K : Body (F := F)) : Body (F := F) :=
  .op (.load pM (Rect.unit (s := S1x2048x1024) (srcOff c k) (sh3 (yz k)).size (srcOff_inb c k)).toLoadRect (View.loadsAt_vmem (chunkY k).pos3)) fun v =>
  .op (.load sM (yR k).toLoadRect (View.loadsAt_vmem (chunkY k).pos2)) fun _ =>
  .op (.store sM (yR k) (plain (yz k) (chunkY k) v) Finset.univ (View.stores_vmem (chunkY k).pos2 ((Memref.isWhole_whole _).storeExact_slice rfl _ (packedY k)) (fun _ => rfl)) (.inl rfl)) fun _ => K

def ySend (k : Fin 9) (K : Body (F := F)) : Body (F := F) :=
  .op (.enqueueDma (sY k) (.remote (Dev.tc (⟨k0_dev3 c, k0_dev3_lt c⟩ : Dev nD)) (rY k) (.dma (sem9 cc0_scratch3 k))) (.dma (sem9 cc0_scratch4 k))
    ((Memref.isWhole_whole _).wordExact_slice rfl _ (wordsY k)) ((Memref.isWhole_whole _).wordExact_slice rfl _ (wordsY k)) ⟨⟨rfl, Or.inl rfl⟩, trivial⟩) fun _ => K

def xSend (k : Fin 8) (K : Body (F := F)) : Body (F := F) :=
  .op (.enqueueDma (rX k) (.remote (Dev.tc (⟨k0_dev12 c, k0_dev12_lt c⟩ : Dev nD)) (xX k) (.dma (sem8 cc0_scratch5 k))) (.dma (sem8 cc0_scratch6 k))
    ((Memref.isWhole_whole _).wordExact_slice rfl _ (wordsXY k)) ((Memref.isWhole_whole _).wordExact_slice rfl _ (wordsX k)) ⟨⟨rfl, Or.inl rfl⟩, trivial⟩) fun _ => K

def yRecv (k : Fin 9) (K : Body (F := F)) : Body (F := F) :=
  .op (.waitDma2 (sem9 cc0_scratch4 k) (sY k) (rY k) ((Memref.isWhole_whole _).wordExact_slice rfl _ (wordsY k)) ((Memref.isWhole_whole _).wordExact_slice rfl _ (wordsY k))) fun _ => K
def ySent (k : Fin 9) (K : Body (F := F)) : Body (F := F) :=
  .op (.waitDma2 (sem9 cc0_scratch3 k) (rY k) (sY k) ((Memref.isWhole_whole _).wordExact_slice rfl _ (wordsY k)) ((Memref.isWhole_whole _).wordExact_slice rfl _ (wordsY k))) fun _ => K
def xRecv (k : Fin 8) (K : Body (F := F)) : Body (F := F) :=
  .op (.waitDma2 (sem8 cc0_scratch6 k) (rX k) (xX k) ((Memref.isWhole_whole _).wordExact_slice rfl _ (wordsXY k)) ((Memref.isWhole_whole _).wordExact_slice rfl _ (wordsX k))) fun _ => K
def xSent (k : Fin 8) (K : Body (F := F)) : Body (F := F) :=
  .op (.waitDma2 (sem8 cc0_scratch5 k) (xX k) (rX k) ((Memref.isWhole_whole _).wordExact_slice rfl _ (wordsX k)) ((Memref.isWhole_whole _).wordExact_slice rfl _ (wordsXY k))) fun _ => K

def normStep (z : ℕ) (h : Chunk z) {n : ℕ} (m : Memref sig .tc .vmem (sh2 n) .bf16) (ro : Fin 2 → ℕ)
    (hr : ∀ a, ro a + (sh2 z).size a ≤ (sh2 n).size a) (po : Fin 3 → ℕ) (hp : ∀ a, po a + (sh3 z).size a ≤ S1x2048x1024.size a)
    (oo : Fin 2 → ℕ) (ho : ∀ a, oo a + (sh2 z).size a ≤ S1024x1024.size a) (K : Body (F := F)) : Body (F := F) :=
  .op (.load pM (Rect.unit (s := S1x2048x1024) po (sh3 z).size hp).toLoadRect (View.loadsAt_vmem h.pos3)) fun v =>
  .op (.load m (Rect.unit (s := sh2 n) ro (sh2 z).size hr).toLoadRect (View.loadsAt_vmem h.pos2)) fun w =>
  .op (.load gM (Rect.unit (s := S1024) ![0] S1024.size inb_S1024_S1024_0).toLoadRect (View.loadsAt_vmem h_S1024)) fun g =>
  .op (.load oM (Rect.unit (s := S1024x1024) oo (sh2 z).size ho).toLoadRect (View.loadsAt_vmem h.pos2)) fun _ =>
  .op (.store oM (Rect.unit (s := S1024x1024) oo (sh2 z).size ho) (norm z h v w g) Finset.univ (View.stores_vmem_bits_univ h.pos2 rfl) (.inl rfl)) fun _ => K

def dirNorm (k : Fin 8) (K : Body (F := F)) : Body (F := F) :=
  normStep 64 chunk64 rM ![64 * k.val, 0] (by revert k; decide) (dirP c k) (k0_off4_inb c k) (dirO c k) (k0_off5_inb c k) K
def tailNorm (K : Body (F := F)) : Body (F := F) :=
  normStep 32 chunk32 rM ![512, 0] inb_S544x1024_S32x1024_512_0 (k0_off6 c) (k0_off6_inb c) (k0_off7 c) (k0_off7_inb c) K
def othNorm (k : Fin 8) (K : Body (F := F)) : Body (F := F) :=
  normStep (xz k) (chunkX k) xM ![64 * k.val, 0] (inX k) (othP c k) (othP_inb c k) (othO c k) (othO_inb c k) K

/-! ## The whole body -/

def phaseSent : Body (F := F) :=
  [0, 1, 2, 3, 4, 5, 6, 7, 8].foldr ySent ([0, 1, 2, 3, 4, 5, 6, 7].foldr xSent (.ret ⟨⟩))
def phaseX : Body (F := F) :=
  [0, 1, 2, 3, 4, 5, 6, 7].foldr (fun k K => xRecv k (othNorm c k K)) phaseSent
def phaseD : Body (F := F) :=
  yRecv 0 (.op (.semWait rdyS (1#32 : BitVec 32).toInt) fun _ => xSend c 0 (dirNorm c 0
    ([1, 2, 3, 4, 5, 6, 7].foldr (fun k K => yRecv k.castSucc (xSend c k (dirNorm c k K)))
      (yRecv 8 (tailNorm c (phaseX c))))))
def phaseY : Body (F := F) :=
  storeStep c 0 (.op (.semWait barS (1#32 : BitVec 32).toInt) fun _ => ySend c 0
    ([1, 2, 3, 4, 5, 6, 7, 8].foldr (fun k K => storeStep c k (ySend c k K)) (phaseD c)))
def looped : Body (F := F) :=
  .op .deviceId fun c : Dev nD =>
  .op (.semSignal ((⟨k0_dev1 c, k0_dev1_lt c⟩ : Dev nD), .tc) barS (1#32 : BitVec 32).toInt) fun _ =>
  .op (.semSignal ((⟨k0_dev2 c, k0_dev2_lt c⟩ : Dev nD), .tc) rdyS (1#32 : BitVec 32).toInt) fun _ => phaseY c

set_option maxRecDepth 65536 in
set_option maxHeartbeats 4000000 in
theorem body_eq : cc0_body (F := F) pM (Memref.isWhole_whole _) gM (Memref.isWhole_whole _) oM (Memref.isWhole_whole _)
    sM (Memref.isWhole_whole _) rM (Memref.isWhole_whole _) xM (Memref.isWhole_whole _)
    cc0_scratch3 cc0_scratch4 cc0_scratch5 cc0_scratch6 cc0_scratch7 = looped := rfl

end Cert.Exchange

end
-- ==== Proof.Scale.lean ====
/-
# A row scaled

Over the extended reals: a row times the reciprocal root of its mean square, against the row over the root. The two
agree at every row, since a mean of squares and a positive constant is positive. And what the kernel writes of a chunk
is its rows so scaled.
-/
module

public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.KernelVsHost
public import proofs.«01_k».proof.Proof.Program

@[expose] public section

noncomputable section

namespace Cert.Exchange

open Cert.KernelIdeal Cert.KernelIdeal.Gen

open Idealize.ShloMosaic
open Idealize.ShloMosaic.TcCoe
open Idealize.ShloMosaic.ValueIdx

/-! ## The two forms of one scale -/

/-- The constant added to the mean, and the length of a row. -/
def eps : EReal := Ideal.ofBits .f32 0x358637BD#32
def width : EReal := Ideal.ofBits .f32 0x44800000#32

theorem width_eq : width = ((1024 : ℝ) : EReal) := by
  unfold width; simp [Ideal.ofBits, Ideal.ieee, -EReal.coe_mul]; norm_num

theorem eps_pos : 0 < eps := by
  unfold eps; simp [Ideal.ofBits, Ideal.ieee, -EReal.coe_mul]

abbrev Row : Type := Fin 1024 → EReal

/-- The mean square of a row, and the constant. -/
def square (y : Row) : EReal := Ideal.div (∑ k, y k * y k) width + eps

theorem mul_self_nonneg' (a : EReal) : 0 ≤ a * a := by
  rcases le_total 0 a with h | h
  · exact EReal.mul_nonneg h h
  · exact EReal.mul_nonneg_iff.mpr (Or.inr ⟨h, h⟩)

theorem square_pos (y : Row) : 0 < square y := by
  unfold square
  have h0 : (0 : EReal) ≤ ∑ k, y k * y k := Finset.sum_nonneg fun k _ => mul_self_nonneg' (y k)
  have h1 : 0 ≤ Ideal.div (∑ k, y k * y k) width := by
    rw [width_eq, Ideal.div_coe (by norm_num : (1024 : ℝ) ≠ 0)]
    exact EReal.mul_nonneg h0 (by exact_mod_cast (by norm_num : (0 : ℝ) ≤ 1 / 1024))
  calc (0 : EReal) < eps := eps_pos
    _ = 0 + eps := (zero_add _).symm
    _ ≤ _ := by gcongr

/-- At a positive number, the reciprocal root as a factor is the root as a divisor. -/
theorem mul_rsqrt (a s : EReal) (h : 0 < s) : a * Ideal.rsqrt s = Ideal.div a (Ideal.sqrt s) := by
  induction s with
  | bot => exact absurd h (by simp)
  | top => simp [Ideal.div]
  | coe r =>
    have hr : 0 < r := by exact_mod_cast h
    have hq : Real.sqrt r ≠ 0 := (Real.sqrt_pos.mpr hr).ne'
    rw [Ideal.rsqrt_coe, Ideal.sqrt_coe, if_neg hr.not_gt, if_neg hr.ne', if_neg hr.not_gt, Ideal.div_coe hq, one_div]

/-- A row scaled, as the kernel computes it; as the reference does. -/
def scaled (y g : Row) (j : Fin 1024) : EReal := y j * Ideal.rsqrt (square y) * g j
def divided (y g : Row) (j : Fin 1024) : EReal := Ideal.div (y j) (Ideal.sqrt (square y)) * g j

theorem scaled_eq (y g : Row) (j : Fin 1024) : scaled y g j = divided y g j := by
  unfold scaled divided; rw [mul_rsqrt _ _ (square_pos y)]

/-! ## A chunk's rows -/

section Chunk
variable {z : ℕ} (h : Chunk z) (v : Vec Ideal (sh3 z) .bf16) (w : Vec Ideal (sh2 z) .bf16) (g : Vec Ideal S1024 .bf16)

/-- The sum of a chunk's row and the row received. -/
def rowOf (a : Fin z) : Row := fun k => v (ix3 (0 : Fin 1) a k) + w (ix2 a k)

theorem total_apply (a : Fin z) (k : Fin 1024) : total z h v w (ix2 a k) = rowOf v w a k := by
  unfold total rowOf
  rw [addf_apply, extf_apply, extf_apply, shapeCast_1ab_ab_apply]

theorem mean_apply (a : Fin z) :
    multiReduction .add [1] ⟨1, ![z]⟩ (mulf (total z h v w) (total z h v w)) 0x00000000#32 h.red (.inl rfl) rfl (ix1 a)
      = ∑ k, rowOf v w a k * rowOf v w a k := by
  refine (Ideal.multiReduction_add_single (s := sh2 z) (a := (1 : Fin 2)) _ _ h.red (.inl rfl) rfl (ix1 a)).trans ?_
  refine Finset.sum_congr rfl fun (k : Fin 1024) _ => ?_
  rw [show h.red.lift (ix1 a) k = (ix2 a k : (sh2 z).Idx) from by funext b; fin_cases b <;> rfl, mulf_apply, total_apply]

theorem norm_apply (a : Fin z) (j : Fin 1024) :
    norm z h v w g (ix2 a j) = scaled (rowOf v w a) (fun k => g (ix1 k)) j := by
  unfold norm scaled square
  rw [mulf_apply, mulf_apply, total_apply, broadcastTo_1b_ab_apply, extf_apply, shapeCast_a_1a_apply, shapeCast_self,
    broadcastTo_apply (k := (ix2 a (0 : Fin 1) : (⟨2, ![z, 1]⟩ : Shape).Idx))]
  · show _ * Ideal.rsqrt (Ideal.div (shapeCast _ _ _ _) width + eps) * _ = _
    rw [shapeCast_apply _ _ _ (ix1 a : (⟨1, ![z]⟩ : Shape).Idx), mean_apply]
    rw [Shape.rowMajor_val_two, Shape.rowMajor_val_one]
    show a.val = a.val * 1 + 0
    omega
  · intro b
    fin_cases b
    · show a.val = if z = 1 then 0 else a.val
      split <;> omega
    · rfl

end Chunk

end Cert.Exchange

end
-- ==== Proof.Seps.lean ====
/-
# Separating conjunctions along a list

The body's loops run over lists of chunk numbers; what each trip takes and gives back is a separating conjunction along
the list.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.SL Idealize.SL.RA Idealize.SL.BI
open scoped Idealize.SL.BI
open Idealize.SL.BI.BIBase Idealize.SL.BI.Laws Idealize.SL.ProofMode Idealize.SL.Sem

universe u
variable {M : Type u} [URA M] {I J : Type}

/-- The separating conjunction of `Φ` along a list. -/
def sepL (Φ : I → sProp M) : List I → sProp M
  | [] => iprop(emp)
  | k :: l => iprop(Φ k ∗ sepL Φ l)

theorem sepL_cons (Φ : I → sProp M) (k : I) (l : List I) : sepL Φ (k :: l) = iprop(Φ k ∗ sepL Φ l) := rfl

theorem sepL_one (Φ : I → sProp M) (k : I) : sepL Φ [k] = Φ k := equiv_iff.mp sep_emp

theorem sepL_append (Φ : I → sProp M) (l l' : List I) : sepL Φ (l ++ l') = iprop(sepL Φ l ∗ sepL Φ l') := by
  induction l with
  | nil => exact (equiv_iff.mp emp_sep).symm
  | cons k l ih =>
    show iprop(Φ k ∗ sepL Φ (l ++ l')) = iprop((Φ k ∗ sepL Φ l) ∗ sepL Φ l')
    rw [ih]; exact BI.Entails.antisymm (Laws.sep_assoc (PROP := sProp M)).2 (Laws.sep_assoc (PROP := sProp M)).1

theorem sepL_map (f : J → I) (Φ : I → sProp M) (l : List J) : sepL Φ (l.map f) = sepL (fun k => Φ (f k)) l := by
  induction l with
  | nil => rfl
  | cons k l ih => show iprop(Φ (f k) ∗ sepL Φ (l.map f)) = _; rw [ih]; rfl

theorem sepL_congr {Φ Ψ : I → sProp M} (l : List I) (h : ∀ k ∈ l, Φ k = Ψ k) : sepL Φ l = sepL Ψ l := by
  induction l with
  | nil => rfl
  | cons k l ih =>
    show iprop(Φ k ∗ sepL Φ l) = iprop(Ψ k ∗ sepL Ψ l)
    rw [h k List.mem_cons_self, ih fun j hj => h j (List.mem_cons_of_mem _ hj)]

theorem sepL_mono {Φ Ψ : I → sProp M} (l : List I) (h : ∀ k, Φ k ⊢ Ψ k) : sepL Φ l ⊢ sepL Ψ l := by
  induction l with
  | nil => exact Entails.refl _
  | cons k l ih => exact BI.sep_mono (h k) ih

theorem sepL_sep (Φ Ψ : I → sProp M) (l : List I) : sepL (fun k => iprop(Φ k ∗ Ψ k)) l = iprop(sepL Φ l ∗ sepL Ψ l) := by
  induction l with
  | nil => exact (equiv_iff.mp emp_sep).symm
  | cons k l ih =>
    show iprop((Φ k ∗ Ψ k) ∗ sepL (fun k => iprop(Φ k ∗ Ψ k)) l) = iprop((Φ k ∗ sepL Φ l) ∗ (Ψ k ∗ sepL Ψ l))
    rw [ih]; exact BI.Entails.antisymm (sep_sep_sep_comm (PROP := sProp M)).1 (sep_sep_sep_comm (PROP := sProp M)).2

theorem bigSep_toFinset [DecidableEq I] (Φ : I → sProp M) (l : List I) (h : l.Nodup) : bigSep l.toFinset Φ = sepL Φ l := by
  induction l with
  | nil => rfl
  | cons k l ih =>
    rw [List.nodup_cons] at h
    rw [List.toFinset_cons, bigSep_insert (by rw [List.mem_toFinset]; exact h.1), ih h.2]; rfl

theorem bigSep_list [Fintype I] [DecidableEq I] (Φ : I → sProp M) (l : List I) (h : l.Nodup) (hl : ∀ k, k ∈ l) :
    bigSep Finset.univ Φ = sepL Φ l := by
  rw [← bigSep_toFinset Φ l h]; congr 1; ext k; simp [hl k]

end Cert.Exchange

end
-- ==== Proof.Cells.lean ====
/-
# The mesh, the cells and the schedule

Each device exchanges with two others: the one across the y axis (`yp`) and the one across the x axis (`xp`). It has 36
semaphores in this protocol (`Kd`): the mesh's barrier, which the device across y signals with its receiving chunks; the
ready signal, which the device across x gives with its receiving chunks; and for every chunk sent or received one
semaphore. Each is credited once: by the device `pal` names, with what `pay` names.
-/
module

public import proofs.«01_k».proof.Proof.Program
public import proofs.«01_k».proof.Proof.Seps
public import Idealize.ShloMosaic.Lib.ValueIdxCore

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The devices across y and across x. -/
abbrev yp (c : Dev nD) : Dev nD := ⟨k0_dev3 c, k0_dev3_lt c⟩
abbrev xp (c : Dev nD) : Dev nD := ⟨k0_dev12 c, k0_dev12_lt c⟩

theorem yp_yp : ∀ c : Dev nD, yp (yp c) = c := by decide +kernel
theorem xp_xp : ∀ c : Dev nD, xp (xp c) = c := by decide +kernel

/-- A device's coordinates along x and y. -/
abbrev dx (c : Dev nD) : ℕ := c.val / 8
abbrev dy (c : Dev nD) : ℕ := (c.val / 4) % 2

theorem dx_lt : ∀ c : Dev nD, dx c < 2 := by decide +kernel
theorem dy_lt (c : Dev nD) : dy c < 2 := by simp only [dy]; omega
theorem dx_yp : ∀ c : Dev nD, dx (yp c) = dx c := by decide +kernel
theorem dy_yp : ∀ c : Dev nD, dy (yp c) = 1 - dy c := by decide +kernel
theorem dx_xp : ∀ c : Dev nD, dx (xp c) = 1 - dx c := by decide +kernel
theorem dy_xp : ∀ c : Dev nD, dy (xp c) = dy c := by decide +kernel

/-! ## The cells -/

/-- Barrier, ready, sent across y, received across y, sent across x, received across x. -/
abbrev Own : Type := Unit ⊕ Fin 9 ⊕ Fin 9 ⊕ Fin 8 ⊕ Fin 8
abbrev Kd : Type := Unit ⊕ Own

instance : DecidableEq Own := inferInstance
instance : DecidableEq Kd := inferInstance
instance : Fintype Kd := inferInstance

abbrev kb : Kd := .inl ()
abbrev kr : Kd := .inr (.inl ())
abbrev ys (k : Fin 9) : Kd := .inr (.inr (.inl k))
abbrev yr (k : Fin 9) : Kd := .inr (.inr (.inr (.inl k)))
abbrev xs (k : Fin 8) : Kd := .inr (.inr (.inr (.inr (.inl k))))
abbrev xr (k : Fin 8) : Kd := .inr (.inr (.inr (.inr (.inr k))))

abbrev csem : Kd → SemLoc sig
  | .inl _ => .reg barS
  | .inr (.inl _) => .reg rdyS
  | .inr (.inr (.inl k)) => .dma (sem9 cc0_scratch3 k)
  | .inr (.inr (.inr (.inl k))) => .dma (sem9 cc0_scratch4 k)
  | .inr (.inr (.inr (.inr (.inl k)))) => .dma (sem8 cc0_scratch5 k)
  | .inr (.inr (.inr (.inr (.inr k)))) => .dma (sem8 cc0_scratch6 k)

/-- The kernel's own semaphores: all but the mesh's barrier. -/
abbrev osem (k : Own) : SemLoc sig := csem (.inr k)

theorem ownSemFacts : Pipeline.OwnSemFacts cfg0.spec osem := by decide +kernel
theorem csem_inj : Function.Injective csem := by decide +kernel
theorem csem_stage : ∀ k w s, csem k ≠ .dma ((cfg0.spec w).sem s) := by decide +kernel

abbrev cell (c : Dev nD) (k : Kd) : GSem nD τ sig := ((c : Thread nD τ), csem k)

theorem cell_inj {c c' : Dev nD} {k k' : Kd} (h : cell c k = cell c' k') : c = c' ∧ k = k' :=
  ⟨congrArg (fun g : GSem nD τ sig => g.1.1) h, csem_inj (congrArg Prod.snd h)⟩

/-- Who credits a cell. -/
abbrev pal : Kd → Dev nD → Dev nD
  | .inl _ => yp
  | .inr (.inl _) => xp
  | .inr (.inr (.inl _)) => id
  | .inr (.inr (.inr (.inl _))) => yp
  | .inr (.inr (.inr (.inr (.inl _)))) => id
  | .inr (.inr (.inr (.inr (.inr _)))) => xp

theorem pal_pal (k : Kd) (c : Dev nD) : pal k (pal k c) = c := by
  rcases k with _ | _ | k | k | k | k
  exacts [yp_yp c, xp_xp c, rfl, yp_yp c, rfl, xp_xp c]

/-- How much. -/
abbrev amt : Kd → ℕ
  | .inl _ => 1
  | .inr (.inl _) => 1
  | .inr (.inr (.inl k)) => (sY k).view.dmaCredit
  | .inr (.inr (.inr (.inl k))) => (rY k).view.dmaCredit
  | .inr (.inr (.inr (.inr (.inl k)))) => (rX k).view.dmaCredit
  | .inr (.inr (.inr (.inr (.inr k)))) => (xX k).view.dmaCredit

theorem amt_pos (k : Kd) : 0 < amt k := by
  rcases k with _ | _ | k | k | k | k
  · exact Nat.one_pos
  · exact Nat.one_pos
  · exact View.dmaCredit_pos _ (chunkY k).pos2
  · exact View.dmaCredit_pos _ (chunkY k).pos2
  · exact View.dmaCredit_pos _ (chunkX k).pos2
  · exact View.dmaCredit_pos _ (chunkX k).pos2

/-- A cell's level: signals below chunks across y below chunks across x; everything else at the bottom. -/
abbrev lvl : Kd → ℕ
  | .inl _ => 1
  | .inr (.inl _) => 1
  | .inr (.inr (.inl k)) => 0
  | .inr (.inr (.inr (.inl k))) => 2
  | .inr (.inr (.inr (.inr (.inl k)))) => 0
  | .inr (.inr (.inr (.inr (.inr k)))) => 3

abbrev all8 : List (Fin 8) := [0, 1, 2, 3, 4, 5, 6, 7]
abbrev all9 : List (Fin 9) := [0, 1, 2, 3, 4, 5, 6, 7, 8]
/-- All of a device's cells; those it credits on other devices, in the order it does. -/
abbrev kinds : List Kd := [kb] ++ ([kr] ++ (all9.map ys ++ (all9.map yr ++ (all8.map xs ++ all8.map xr))))
abbrev dues : List Kd := [kb] ++ ([kr] ++ (all9.map yr ++ all8.map xr))

theorem kinds_nodup : kinds.Nodup := by decide +kernel
theorem mem_all9 : ∀ k, k ∈ all9 := by decide
theorem mem_all8 : ∀ k, k ∈ all8 := by decide
theorem mem_kinds (k : Kd) : k ∈ kinds := by
  simp only [kinds, List.mem_append, List.mem_map, List.mem_singleton]
  rcases k with _ | _ | k | k | k | k
  · exact .inl rfl
  · exact .inr (.inl rfl)
  · exact .inr (.inr (.inl ⟨k, mem_all9 k, rfl⟩))
  · exact .inr (.inr (.inr (.inl ⟨k, mem_all9 k, rfl⟩)))
  · exact .inr (.inr (.inr (.inr (.inl ⟨k, mem_all8 k, rfl⟩))))
  · exact .inr (.inr (.inr (.inr (.inr ⟨k, mem_all8 k, rfl⟩))))
theorem dues_nodup : dues.Nodup := by decide +kernel

/-! ## Contents -/

/-- The device's block of the partial sums, and the gain, as staged. -/
def pstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- The row of the device's own array that row `r` of its sending buffer holds. -/
def srcRow (c : Dev nD) (r : ℕ) : ℕ :=
  (1 - dy c) * 1024 + (if r < 512 then dx c * 512 + r else (1 - dx c) * 512 + 480 + (r - 512))

theorem srcRow_lt (c : Dev nD) (r : Fin 544) : srcRow c r.val < 2048 := by
  have := dx_lt c; have := dy_lt c; have := r.isLt
  unfold srcRow; split <;> omega

/-- What a device sends across y, what it receives from there, and what it receives across x. -/
def sent (c : Dev nD) : (cc0_scratch0 : Ref sig .tc).ty.Contents (Elt F) :=
  fun i => (pstg m ρ c : S1x2048x1024.Idx → Elt F .bf16) (ix3 (0 : Fin 1) (⟨srcRow c (i 0).val, srcRow_lt c (i 0)⟩ : Fin 2048) (i 1 : Fin 1024))
def gotY (c : Dev nD) : (cc0_scratch1 : Ref sig .tc).ty.Contents (Elt F) := (sent m ρ (yp c) : S544x1024.Idx → Elt F .bf16)
def gotX (c : Dev nD) : (cc0_scratch2 : Ref sig .tc).ty.Contents (Elt F) :=
  fun i => (gotY m ρ (xp c) : S544x1024.Idx → Elt F .bf16) (ix2 (⟨(i 0).val, lt_trans (i 0).isLt (by decide)⟩ : Fin 544) (i 1 : Fin 1024))

/-- Elements `S` of a device's buffer `b`, a share of them, held at contents `f`. -/
abbrev held (c : Dev nD) (b : Ref sig .tc) (S : Finset b.ty.shape.Idx) (q : PosShare TreeShare) (f : b.ty.Contents (Elt F)) : sProp 𝕄 :=
  ((c : Thread nD τ).loc b) ↦[S]{q} f

/-- A chunk of the sending buffer, of the buffer receiving across y, its part passed on, and of the one receiving across x. -/
abbrev sPts (c : Dev nD) (k : Fin 9) (f : (cc0_scratch0 : Ref sig .tc).ty.Contents (Elt F)) : sProp 𝕄 :=
  (sY k).view.loc (c : Thread nD τ) ↦[(sY k).view.set]{fullShare} f
abbrev rPts (c : Dev nD) (k : Fin 9) (f : (cc0_scratch1 : Ref sig .tc).ty.Contents (Elt F)) : sProp 𝕄 :=
  (rY k).view.loc (c : Thread nD τ) ↦[(rY k).view.set]{fullShare} f
abbrev rxPts (c : Dev nD) (k : Fin 8) (f : (cc0_scratch1 : Ref sig .tc).ty.Contents (Elt F)) : sProp 𝕄 :=
  (rX k).view.loc (c : Thread nD τ) ↦[(rX k).view.set]{fullShare.left} f
abbrev xPts (c : Dev nD) (k : Fin 8) (f : (cc0_scratch2 : Ref sig .tc).ty.Contents (Elt F)) : sProp 𝕄 :=
  (xX k).view.loc (c : Thread nD τ) ↦[(xX k).view.set]{fullShare} f

/-! ## The schedule -/

instance sepL_storable {I : Type} (Φ : I → sProp 𝕄) [∀ k, BI.Storable (upEmb : UEmb _ 𝕄) (Φ k)] (l : List I) :
    BI.Storable (upEmb : UEmb _ 𝕄) (sepL Φ l) := by
  induction l with
  | nil => unfold sepL; infer_instance
  | cons k l ih => unfold sepL; infer_instance

/-- What crediting a device's cell hands that device. -/
def pay (c : Dev nD) : Kd → sProp 𝕄
  | .inl _ => sepL (fun k => iprop(∃ f, rPts (yp c) k f)) all9
  | .inr (.inl _) => sepL (fun k => iprop(∃ f, xPts (xp c) k f)) all8
  | .inr (.inr (.inl k)) => iprop(∃ f, sPts c k f)
  | .inr (.inr (.inr (.inl k))) => rPts c k (gotY m ρ c)
  | .inr (.inr (.inr (.inr (.inl k)))) => rxPts c k (gotY m ρ c)
  | .inr (.inr (.inr (.inr (.inr k)))) => xPts c k (gotX m ρ c)

instance pay_storable (c : Dev nD) (k : Kd) : BI.Storable (upEmb : UEmb _ 𝕄) (pay (F := F) m ρ c k) := by
  rcases k with _ | _ | k | k | k | k <;> unfold pay <;> infer_instance

/-- The kind of a semaphore, if it is one of the protocol's. -/
def kindOf (s : SemLoc sig) : Option Kd := Function.partialInv csem s

theorem kindOf_csem (k : Kd) : kindOf (csem k) = some k := Function.partialInv_left csem_inj k
theorem kindOf_none {s : SemLoc sig} (h : ∀ k, csem k ≠ s) : kindOf s = none := by
  unfold kindOf Function.partialInv; exact dif_neg fun ⟨k, hk⟩ => h k hk

def isCell (g : GSem nD τ sig) : Prop := g.1.2 = .tc ∧ (kindOf g.2).isSome
instance (g : GSem nD τ sig) : Decidable (isCell g) := by unfold isCell; infer_instance

def amtOf (g : GSem nD τ sig) : ℕ := (kindOf g.2).elim 1 amt
def payOf (g : GSem nD τ sig) : sProp 𝕄 := (kindOf g.2).elim iprop(emp) (pay m ρ g.1.1)

/-- One round, in which every cell is credited once. -/
def sched : Rounds.Schedule (GSem nD τ sig) Unit 𝕄 where
  duties g r := if r = 0 ∧ isCell g then {()} else ∅
  unitless _ := False
  amount g _ _ := amtOf g
  payload g _ _ := payOf m ρ g
  amount_pos g _ _ _ := by
    unfold amtOf
    cases kindOf g.2 with
    | none => exact Nat.one_pos
    | some k => exact amt_pos k

instance sched_storable (g : GSem nD τ sig) (r : ℕ) (d : Unit) : BI.Storable (upEmb : UEmb _ 𝕄) ((sched (F := F) m ρ).payload g r d) := by
  show BI.Storable upEmb (payOf m ρ g)
  unfold payOf
  cases kindOf g.2 with
  | none => exact inferInstanceAs (BI.Storable _ iprop(emp))
  | some k => exact pay_storable m ρ g.1.1 k

section Sched
variable (c : Dev nD) (k : Kd)

theorem duties_cell : (sched (F := F) m ρ).duties (cell c k) 0 = {()} :=
  if_pos ⟨rfl, rfl, by rw [kindOf_csem]; rfl⟩
theorem mem_duties : () ∈ (sched (F := F) m ρ).duties (cell c k) 0 := by rw [duties_cell]; exact Finset.mem_singleton_self _
theorem duties_later (g : GSem nD τ sig) : ∀ r, 1 ≤ r → (sched (F := F) m ρ).duties g r = ∅ :=
  fun r hr => if_neg fun h => by omega
theorem amount_cell (d : Unit) : (sched (F := F) m ρ).amount (cell c k) 0 d = amt k := by
  show amtOf (cell c k) = _; unfold amtOf; rw [kindOf_csem]; rfl
theorem payload_cell (d : Unit) : (sched (F := F) m ρ).payload (cell c k) 0 d = pay m ρ c k := by
  show payOf m ρ (cell c k) = _; unfold payOf; rw [kindOf_csem]; rfl
theorem expect_cell : (sched (F := F) m ρ).expect (cell c k) 0 = amt k := by
  unfold Schedule.expect Schedule.amountOf; rw [duties_cell, Finset.sum_singleton, amount_cell]
theorem rest_cell : bigSep ((sched (F := F) m ρ).duties (cell c k) 0 \ ∅) (fun d => (sched (F := F) m ρ).payload (cell c k) 0 d) = pay m ρ c k := by
  rw [Finset.sdiff_empty, duties_cell, bigSep_singleton, payload_cell]

end Sched

/-! ## What is owed; the levels -/

abbrev due (c : Dev nD) (k : Kd) : CellTallies nD τ sig Unit := tallyAt (cell (pal k c) k) () (amt k)
/-- What device `c` owes the cells `l` of other devices. -/
def owe (c : Dev nD) (l : List Kd) : CellTallies nD τ sig Unit := (l.map (due c)).sum

theorem owe_cons (c : Dev nD) (k : Kd) (l : List Kd) : owe c (k :: l) = owe c l + due c k := by
  unfold owe; rw [List.map_cons, List.sum_cons, add_comm]

theorem owe_apply (c : Dev nD) (l : List Kd) (g : GSem nD τ sig) (u : Unit) :
    owe c l g u = (l.map fun k => if g = cell (pal k c) k then amt k else 0).sum := by
  induction l with
  | nil => rfl
  | cons k l ih =>
    rw [owe_cons, Pi.add_apply, Finsupp.add_apply, ih, tallyAt_apply, List.map_cons, List.sum_cons, add_comm]
    simp

theorem owe_pos {c : Dev nD} {l : List Kd} {g : GSem nD τ sig} {u : Unit} (h : 0 < owe c l g u) : ∃ k ∈ l, g = cell (pal k c) k := by
  rw [owe_apply] at h
  by_contra hn
  refine absurd h (Nat.not_lt.mpr (Nat.le_of_eq (List.sum_eq_zero fun x hx => ?_)))
  obtain ⟨k, hk, rfl⟩ := List.mem_map.mp hx
  exact if_neg fun hg => hn ⟨k, hk, hg⟩

def L (g : GSem nD τ sig) : Finset Unit := if g.1.2 = .tc then {()} else ∅
def lv (g : GSem nD τ sig) (_ : Unit) : ℕ := (kindOf g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = lvl k := by unfold lv; rw [kindOf_csem]; rfl

/-- The levels of all semaphores, as a fact. -/
def levs : sProp 𝕄 := levAts L lv
instance levs_persistent : BI.Persistent (levs (F := F)) := by unfold levs; infer_instance

/-- A device may wait at a semaphore while everything it owes lies above it. -/
theorem mayWait_of (c : Dev nD) (q : SemLoc sig) (n : ℕ) (hq : lv ((c : Thread nD τ), q) () = n) (l : List Kd) (hl : ∀ j ∈ l, n < lvl j) :
    levs (F := F) ⊢ MayWait (c : Thread nD τ) q () (owe c l) := by
  unfold levs
  exact MayOwe.of_cut (L := L) (lev := lv) n (fun p hp => by rw [Finset.mem_singleton.mp hp, L_tc]; exact Finset.mem_singleton_self _)
    (fun g u hg => by obtain ⟨k, _, rfl⟩ := owe_pos hg; rw [L_tc]; exact Finset.mem_singleton_self _)
    (fun p hp => by rw [Finset.mem_singleton.mp hp]; exact hq.le)
    (fun g u hg => by obtain ⟨k, hk, rfl⟩ := owe_pos hg; rw [lv_cell]; exact hl k hk)

theorem mayWait_cell (c : Dev nD) (k : Kd) (l : List Kd) (hl : ∀ j ∈ l, lvl k < lvl j) :
    levs (F := F) ⊢ MayWait (c : Thread nD τ) (csem k) () (owe c l) :=
  mayWait_of c (csem k) (lvl k) (lv_cell c k ()) l hl

end Cert.Exchange

end
-- ==== Proof.Steps.lean ====
/-
# The body's steps

One rule for a loop over a list of chunk numbers, one for each kind of step of the body: a wait, a chunk stored to be
sent, a chunk sent across y or passed on across x, a chunk normalised.
-/
module

public import proofs.«01_k».proof.Proof.Cells

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev wpB (c : Dev nD) (b : Body (F := F)) (Q : PUnit → sProp 𝕄) : sProp 𝕄 :=
  wp frame (wpE (defs₀ (F := F)) 𝒱₀ (c : Thread nD τ) none) Set.univ b Q

/-! ## Loops -/

/-- A loop over `l`: a trip `k` turns `B k` into `A k` and keeps `J`, which may depend on the trips still to come. -/
theorem wp_loop {I : Type} (c : Dev nD) (step : I → Body (F := F) → Body (F := F)) (B A : I → sProp 𝕄) (J : List I → sProp 𝕄)
    (h : ∀ k l b Q, iprop(B k ∗ J (k :: l)) ⊢ iprop(((A k ∗ J l) -∗ wpB c b Q) -∗ wpB c (step k b) Q)) (b : Body (F := F)) (Q : PUnit → sProp 𝕄) :
    ∀ l, iprop(sepL B l ∗ J l) ⊢ iprop(((sepL A l ∗ J []) -∗ wpB c b Q) -∗ wpB c (l.foldr step b) Q)
  | [] => by
    iintro ⟨-, HJ⟩ Hk
    iapply Hk
    isplitr; · unfold sepL; iempintro
    iexact HJ
  | k :: l => by
    rw [sepL_cons, sepL_cons, List.foldr_cons]
    iintro ⟨⟨HB, Hl⟩, HJ⟩ Hk
    iapply (h k l _ Q) $$ [HB HJ]
    · isplitl [HB] <;> iassumption
    iintro ⟨HA, HJ⟩
    iapply (wp_loop c step B A J h b Q l) $$ [Hl HJ]
    · isplitl [Hl] <;> iassumption
    iintro ⟨Hl, HJ⟩
    iapply Hk
    isplitl [HA Hl]
    · isplitl [HA] <;> iassumption
    iexact HJ

/-! ## What every step may use -/

/-- Every device's cells under the names `K`, each at its round, and the levels. -/
def ctx (K : Dev nD × Kd → ℕ) : sProp 𝕄 :=
  iprop((bigSep Finset.univ fun ck : Dev nD × Kd => cellInv ER (sched m ρ) (K ck) (cell ck.1 ck.2))
    ∗ (bigSep Finset.univ fun ck : Dev nD × Kd => reached ER (cell ck.1 ck.2) 0) ∗ levs)

instance ctx_persistent (K : Dev nD × Kd → ℕ) : BI.Persistent (ctx m ρ K) := by unfold ctx; infer_instance

variable (K : Dev nD × Kd → ℕ)

theorem inv_of (ck : Dev nD × Kd) :
    (bigSep Finset.univ fun ck : Dev nD × Kd => (cellInv ER (sched m ρ) (K ck) (cell ck.1 ck.2) : sProp 𝕄)) ⊢ cellInv ER (sched m ρ) (K ck) (cell ck.1 ck.2) :=
  bigSep_elim (Finset.mem_univ ck)
theorem reached_of (ck : Dev nD × Kd) :
    (bigSep Finset.univ fun ck : Dev nD × Kd => (reached ER (cell ck.1 ck.2) 0 : sProp 𝕄)) ⊢ reached ER (cell ck.1 ck.2) 0 :=
  bigSep_elim (Finset.mem_univ ck)

theorem inv_at (c : Dev nD) (k : Kd) : ctx m ρ K ⊢ cellInv ER (sched m ρ) (K (c, k)) (cell c k) := by
  unfold ctx
  iintro ⟨H, -, -⟩
  iapply (inv_of m ρ K (c, k)); iexact H
theorem reached_at (c : Dev nD) (k : Kd) : ctx m ρ K ⊢ reached ER (cell c k) 0 := by
  unfold ctx
  iintro ⟨-, H, -⟩
  iapply (reached_of (F := F) (c, k)); iexact H
theorem levs_at : ctx m ρ K ⊢ levs := by
  unfold ctx
  iintro ⟨-, -, H⟩; iexact H

/-- The device owes the cells `l`, after some waits. -/
def owing (c : Dev nD) (l : List Kd) : sProp 𝕄 := iprop(∃ W, owes (c : Thread nD τ) (owe c l) W)

/-- The device's position at a cell before its wait, and the right to wait there. -/
abbrev posn (c : Dev nD) (k : Kd) : sProp 𝕄 := atPos ER (cell c k) 0 ∅ 0
abbrev crd (c : Dev nD) (k : Kd) : sProp 𝕄 := cred (tallyAt (cell c k) () (amt k))
abbrev tok (c : Dev nD) (k : Kd) : sProp 𝕄 := dutyTok ER (cell (pal k c) k) 0 ()
abbrev zero (c : Dev nD) (k : Kd) : sProp 𝕄 := semVal (cell c k) 0

/-- A wait at a cell: what crediting it hands over comes, and the cell closes. -/
theorem wp_waitCell (c : Dev nD) (k : Kd) (l : List Kd) (hl : ∀ j ∈ l, lvl k < lvl j) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem k) (amt k) R)
    (b : PUnit → Body (F := F)) (Q : PUnit → sProp 𝕄) :
    iprop(ctx m ρ K ∗ posn c k ∗ crd c k ∗ owing c l)
      ⊢ iprop(((owing c l ∗ pay m ρ c k ∗ zero c k) -∗ wpB c (b ⟨⟩) Q) -∗ wpB c (.op w b) Q) := by
  have hmw : ctx m ρ K ⊢ MayWait (c : Thread nD τ) (csem k) () (owe c l) := by
    have h1 := @levs_at F _ m ρ K
    have h2 := @mayWait_cell F _ c k l hl
    exact h1.trans h2
  unfold owing
  iintro ⟨#Hctx, Hat, Hc, ⟨%W, Ho⟩⟩ Hk
  ihave Hmw := hmw $$ Hctx
  iapply (Rounds.wp_wait_rest_token 𝒱₀ ER (sched m ρ) (c : Thread nD τ) none (sm := csem k) (k' := amt k) (κ := K (c, k)) hw (Set.mem_univ _) () (O := owe c l) (W := W)
      (R := 0) (m := 0) (T := ∅) (by rw [Nat.zero_add, expect_cell])) $$ [Hc Ho Hat]
  · isplitr; · iapply (inv_at m ρ K c k); iexact Hctx
    isplitl [Hc]; · iexact Hc
    isplitl [Ho]; · iexact Ho
    isplitl [Hmw]; · iexact Hmw
    iexact Hat
  iintro ⟨Ho, Hat, -, Hpay⟩
  ihave Hp := (Entails.of_eq (rest_cell m ρ c k)) $$ Hpay
  imod (Rounds.cell_close ER (sched m ρ) (Set.mem_univ (K (c, k))) (fun h => h) (R := 0 + 1) (duties_later m ρ (cell c k))) $$ [Hat] with Hz
  · isplitr; · iapply (inv_at m ρ K c k); iexact Hctx
    iexact Hat
  iapply Hk
  isplitl [Ho]
  · iexists _; iexact Ho
  isplitl [Hp] <;> iassumption

/-- A signal to a cell of another device. -/
theorem wp_signalCell (c : Dev nD) (sm : Sem sig) (k : Kd) (hk : csem k = .reg sm) (h1 : amt k = 1) (l : List Kd) (b : PUnit → Body (F := F)) (Q : PUnit → sProp 𝕄) :
    iprop(ctx m ρ K ∗ owing c (k :: l) ∗ tok c k ∗ pay m ρ (pal k c) k)
      ⊢ iprop((owing c l -∗ wpB c (b ⟨⟩) Q) -∗ wpB c (.op (.semSignal (pal k c, .tc) sm (1#32 : BitVec 32).toInt) b) Q) := by
  unfold owing
  iintro ⟨#Hctx, ⟨%W, Ho⟩, Ht, Hp⟩ Hk
  have e : ((pal k c : Thread nD τ), SemLoc.reg sm) = cell (pal k c) k := by rw [← hk]
  iapply (Rounds.wp_signal 𝒱₀ ER (sched m ρ) (c : Thread nD τ) none (dst := (pal k c : Thread nD τ)) (κ := K (pal k c, k)) (O₀ := owe c (k :: l))
      (r := 0) (d := ()) (by rw [e]; exact mem_duties m ρ _ k) (by rw [e, amount_cell, h1]; rfl) () (owe c l) (by rw [owe_cons, e, due, h1]; rfl))
    $$ [Ho Ht Hp]
  · isplitr; · rw [e]; iapply (inv_at m ρ K (pal k c) k); iexact Hctx
    isplitl [Ho]; · iexact Ho
    isplitl [Ht]; · rw [e]; iexact Ht
    isplitl [Hp]; · rw [e, payload_cell]; iexact Hp
    rw [e]; iapply (reached_at m ρ K (pal k c) k); iexact Hctx
  iintro Ho
  iapply Hk
  iexists W; iexact Ho

end Cert.Exchange

end
-- ==== Proof.Moves.lean ====
/-
# Chunks stored, sent and normalised

What each of the body's steps on chunks does to the buffers: a chunk of the device's own array stored to be sent, a
chunk sent across y, a chunk passed on across x, a chunk normalised into the result.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ)

/-! ## What lands where -/

/-- A chunk written over anything, from a buffer's own rows. -/
theorem landY (c : Dev nD) (k : Fin 9) (fd : (cc0_scratch1 : Ref sig .tc).ty.Contents (Elt F)) :
    rPts (yp c) k ((rY k).view.write (Elt F) fd ((sY k).view.read (Elt F) (sent m ρ c)) Finset.univ) = rPts (yp c) k (gotY m ρ (yp c)) :=
  pointsTo_congr fun i hi => by
    obtain ⟨x, -, rfl⟩ := Finset.mem_map.mp hi
    rw [View.write_emb_of_mem _ _ (Finset.mem_univ x)]
    unfold gotY
    rw [yp_yp]
    rfl

theorem landX (c : Dev nD) (k : Fin 8) (fd : (cc0_scratch2 : Ref sig .tc).ty.Contents (Elt F)) :
    xPts (xp c) k ((xX k).view.write (Elt F) fd ((rX k).view.read (Elt F) (gotY m ρ c)) Finset.univ) = xPts (xp c) k (gotX m ρ (xp c)) :=
  pointsTo_congr fun i hi => by
    obtain ⟨x, -, rfl⟩ := Finset.mem_map.mp hi
    rw [View.write_emb_of_mem _ _ (Finset.mem_univ x)]
    unfold gotX
    rw [xp_xp]
    refine congrArg (gotY m ρ c : S544x1024.Idx → Elt F .bf16) (funext fun a => ?_)
    fin_cases a <;> rfl

theorem srcOff_eq : ∀ (c : Dev nD) (k : Fin 9),
    srcOff c k = ![0, (1 - dy c) * 1024 + (if k.val = 8 then (1 - dx c) * 512 + 480 else dx c * 512 + 64 * k.val), 0] := by
  decide +kernel

theorem plain_apply (z : ℕ) (h : Chunk z) (v : Vec F (sh3 z) .bf16) (x : (sh2 z).Idx) :
    plain z h v x = v (ix3 (0 : Fin 1) (x 0 : Fin z) (x 1 : Fin 1024)) := by
  unfold plain
  rw [shapeCast_self]
  refine (shapeCast_dropUnit_apply ![z, 1024] v h.cast32 x).trans (congrArg v (funext fun a => ?_))
  fin_cases a <;> rfl

/-- The chunk's rows of the device's own array, as the store reads them. -/
abbrev srcChunk (c : Dev nD) (k : Fin 9) : Vec F (sh3 (yz k)) .bf16 :=
  pM.view.readAt (Elt F) (Rect.unit (s := S1x2048x1024) (srcOff c k) (sh3 (yz k)).size (srcOff_inb c k)).toLoadRect (pstg m ρ c)

theorem storeY (c : Dev nD) (k : Fin 9) (f : (cc0_scratch0 : Ref sig .tc).ty.Contents (Elt F)) :
    sPts c k ((sM.access (yR k)).write (Elt F) f (plain (yz k) (chunkY k) (srcChunk m ρ c k)) Finset.univ) = sPts c k (sent m ρ c) :=
  pointsTo_congr fun i hi => by
    obtain ⟨x, -, rfl⟩ := Finset.mem_map.mp hi
    rw [View.write_emb_of_mem _ _ (Finset.mem_univ x)]
    refine (cast_eq _ _).trans ((plain_apply _ _ _ _).trans ?_)
    unfold sent
    refine congrArg (pstg m ρ c : S1x2048x1024.Idx → Elt F .bf16) (funext fun a => Fin.ext ?_)
    have hx : (x 0).val < yz k := (x 0).isLt
    have hk := k.isLt
    have e := srcOff_eq c k
    fin_cases a
    · show srcOff c k 0 + 1 * 0 = 0
      rw [e]; rfl
    · show srcOff c k 1 + 1 * (x 0).val = srcRow c (64 * k.val + 1 * (x 0).val)
      rw [e]
      show (1 - dy c) * 1024 + (if k.val = 8 then (1 - dx c) * 512 + 480 else dx c * 512 + 64 * k.val) + 1 * (x 0).val = _
      unfold srcRow
      unfold yz at hx
      split_ifs at hx ⊢ <;> omega
    · show srcOff c k 2 + 1 * (x 1).val = 0 + 1 * (x 1).val
      rw [e]; rfl

/-! ## The staged inputs -/

abbrev pPts (c : Dev nD) : sProp 𝕄 := ((c : Thread nD τ).loc cc0_stg0_0) ↦{fullShare} (pstg m ρ c)
abbrev gPts (c : Dev nD) : sProp 𝕄 := ((c : Thread nD τ).loc cc0_stg1_0) ↦{fullShare} (gstg m ρ c)

theorem wp_storeStep (c : Dev nD) (k : Fin 9) (b : Body (F := F)) (Q : PUnit → sProp 𝕄) :
    iprop(pPts m ρ c ∗ ∃ f, sPts c k f) ⊢ iprop(((pPts m ρ c ∗ sPts c k (sent m ρ c)) -∗ wpB c b Q) -∗ wpB c (storeStep c k b) Q) := by
  unfold storeStep
  iintro ⟨Hp, ⟨%f, Hs⟩⟩ Hk
  iapply (wp_load 𝒱₀ (c : Thread nD τ) none Set.univ (m := pM) (S := Finset.univ) (Finset.subset_univ _)) $$ Hp
  iintro Hp
  iapply (wp_load_rect 𝒱₀ (c : Thread nD τ) none Set.univ (m := sM) (r := yR k) (S := (sY k).view.set) Finset.Subset.rfl) $$ Hs
  iintro Hs
  iapply (wp_store 𝒱₀ (c : Thread nD τ) none Set.univ (m := sM) (r := yR k) (S := (sY k).view.set) Finset.Subset.rfl) $$ Hs
  iintro Hs
  iapply Hk
  isplitl [Hp]; · iexact Hp
  iapply (Entails.of_eq (storeY m ρ c k f)); iexact Hs

/-! ## The sends -/

theorem amt_ys : ∀ k, amt (ys k) = amt (yr k) := fun k => rfl
theorem amt_xs : ∀ k, amt (xs k) = amt (xr k) := fun k => rfl

/-- A chunk sent across y: its rows go with the send, and come back at the wait for its having left. -/
theorem wp_ySend (c : Dev nD) (k : Fin 9) (l : List Kd) (b : Body (F := F)) (Q : PUnit → sProp 𝕄) :
    iprop(ctx m ρ K ∗ owing c (yr k :: l) ∗ sPts c k (sent m ρ c) ∗ (∃ f, rPts (yp c) k f) ∗ tok c (ys k) ∗ tok c (yr k))
      ⊢ iprop(((owing c l ∗ crd c (ys k)) -∗ wpB c b Q) -∗ wpB c (ySend c k b) Q) := by
  unfold ySend owing
  iintro ⟨#Hctx, ⟨%W, Ho⟩, Hs, ⟨%fd, Hd⟩, Ht1, Ht2⟩ Hk
  iapply (Rounds.wp_send_pointsTo 𝒱₀ ER (sched m ρ) (c : Thread nD τ) none (c' := (yp c : Thread nD τ)) (src := sY k) (dst := rY k)
      (sS := csem (ys k)) (sem := csem (yr k)) (κ₁ := K (c, ys k)) (κ₂ := K (yp c, yr k))
      (r₁ := 0) (r₂ := 0) (d₁ := ()) (d₂ := ()) (q := fullShare) (fs := sent m ρ c) (fd := fd)
      (mem_duties m ρ c (ys k)) (mem_duties m ρ (yp c) (yr k)) () () (amt (yr k)) rfl (amount_cell m ρ c (ys k) ())
      (amount_cell m ρ (yp c) (yr k) ()) (owe c l) (owe_cons c (yr k) l) (W := W)
      (by rw [payload_cell m ρ c (ys k)]; unfold pay; iintro H; iexists _; iexact H)
      (by rw [payload_cell m ρ (yp c) (yr k)]; exact Entails.of_eq (landY m ρ c k fd))) $$ [Ho Hs Hd Ht1 Ht2]
  · isplitr; · iapply (inv_at m ρ K c (ys k)); iexact Hctx
    isplitr; · iapply (inv_at m ρ K (yp c) (yr k)); iexact Hctx
    isplitl [Hs]; · iexact Hs
    isplitl [Hd]; · iexact Hd
    isplitl [Ho]; · iexact Ho
    isplitl [Ht1]; · iexact Ht1
    isplitr; · iapply (reached_at m ρ K c (ys k)); iexact Hctx
    isplitl [Ht2]; · iexact Ht2
    iapply (reached_at m ρ K (yp c) (yr k)); iexact Hctx
  iintro ⟨Hc, Ho⟩
  iapply Hk
  isplitl [Ho]
  · iexists W; iexact Ho
  iexact Hc

/-- A chunk passed on across x, from half a share of the rows received. -/
theorem wp_xSend (c : Dev nD) (k : Fin 8) (l : List Kd) (b : Body (F := F)) (Q : PUnit → sProp 𝕄) :
    iprop(ctx m ρ K ∗ owing c (xr k :: l) ∗ rxPts c k (gotY m ρ c) ∗ (∃ f, xPts (xp c) k f) ∗ tok c (xs k) ∗ tok c (xr k))
      ⊢ iprop(((owing c l ∗ crd c (xs k)) -∗ wpB c b Q) -∗ wpB c (xSend c k b) Q) := by
  unfold xSend owing
  iintro ⟨#Hctx, ⟨%W, Ho⟩, Hs, ⟨%fd, Hd⟩, Ht1, Ht2⟩ Hk
  iapply (Rounds.wp_send_pointsTo 𝒱₀ ER (sched m ρ) (c : Thread nD τ) none (c' := (xp c : Thread nD τ)) (src := rX k) (dst := xX k)
      (sS := csem (xs k)) (sem := csem (xr k)) (κ₁ := K (c, xs k)) (κ₂ := K (xp c, xr k))
      (r₁ := 0) (r₂ := 0) (d₁ := ()) (d₂ := ()) (q := fullShare.left) (fs := gotY m ρ c) (fd := fd)
      (mem_duties m ρ c (xs k)) (mem_duties m ρ (xp c) (xr k)) () () (amt (xr k)) rfl (amount_cell m ρ c (xs k) ())
      (amount_cell m ρ (xp c) (xr k) ()) (owe c l) (owe_cons c (xr k) l) (W := W)
      (by rw [payload_cell m ρ c (xs k)]; exact Entails.of_eq rfl)
      (by rw [payload_cell m ρ (xp c) (xr k)]; exact Entails.of_eq (landX m ρ c k fd))) $$ [Ho Hs Hd Ht1 Ht2]
  · isplitr; · iapply (inv_at m ρ K c (xs k)); iexact Hctx
    isplitr; · iapply (inv_at m ρ K (xp c) (xr k)); iexact Hctx
    isplitl [Hs]; · iexact Hs
    isplitl [Hd]; · iexact Hd
    isplitl [Ho]; · iexact Ho
    isplitl [Ht1]; · iexact Ht1
    isplitr; · iapply (reached_at m ρ K c (xs k)); iexact Hctx
    isplitl [Ht2]; · iexact Ht2
    iapply (reached_at m ρ K (xp c) (xr k)); iexact Hctx
  iintro ⟨Hc, Ho⟩
  iapply Hk
  isplitl [Ho]
  · iexists W; iexact Ho
  iexact Hc

/-! ## A chunk normalised -/

section Norm
variable (c : Dev nD) (z : ℕ) (oo : Fin 2 → ℕ) (ho : ∀ a, oo a + (sh2 z).size a ≤ S1024x1024.size a)

/-- The rows of the result a chunk is written to. -/
abbrev oV : View sig .tc .vmem (sh2 z) .f32 := oM.access (Rect.unit (s := S1024x1024) oo (sh2 z).size ho)
abbrev oPts (f : (cc0_stg2_0 : Ref sig .tc).ty.Contents (Elt F)) : sProp 𝕄 := (oV z oo ho).loc (c : Thread nD τ) ↦[(oV z oo ho).set]{fullShare} f

/-- The gain as loaded. -/
abbrev gLoad : Vec F S1024 .bf16 := gM.view.readAt (Elt F) (Rect.unit (s := S1024) ![0] S1024.size inb_S1024_S1024_0).toLoadRect (gstg m ρ c)
abbrev pLoad (po : Fin 3 → ℕ) (hp : ∀ a, po a + (sh3 z).size a ≤ S1x2048x1024.size a) : Vec F (sh3 z) .bf16 :=
  pM.view.readAt (Elt F) (Rect.unit (s := S1x2048x1024) po (sh3 z).size hp).toLoadRect (pstg m ρ c)

/-- The result buffer with one chunk of it written, at whatever it held before the launch elsewhere. -/
def outWith (w : FVec F (sh2 z) .f32) : (cc0_stg2_0 : Ref sig .tc).ty.Contents (Elt F) :=
  (oV z oo ho).write (Elt F) (m ((c : Thread nD τ).loc cc0_stg2_0)) w Finset.univ

theorem outWith_pts (w : FVec F (sh2 z) .f32) (f : (cc0_stg2_0 : Ref sig .tc).ty.Contents (Elt F)) :
    oPts c z oo ho ((oV z oo ho).write (Elt F) f w Finset.univ) = oPts c z oo ho (outWith m c z oo ho w) :=
  pointsTo_congr fun i hi => by
    obtain ⟨x, -, rfl⟩ := Finset.mem_map.mp hi
    unfold outWith
    rw [View.write_emb_of_mem _ _ (Finset.mem_univ x), View.write_emb_of_mem _ _ (Finset.mem_univ x)]

theorem wp_normStep (h : Chunk z) {n : ℕ} (mr : Memref sig .tc .vmem (sh2 n) .bf16) (ro : Fin 2 → ℕ)
    (hr : ∀ a, ro a + (sh2 z).size a ≤ (sh2 n).size a) (po : Fin 3 → ℕ) (hp : ∀ a, po a + (sh3 z).size a ≤ S1x2048x1024.size a)
    {S : Finset (Idx (mr.view.loc (c : Thread nD τ)))} {q : PosShare TreeShare} (f : Buf (Elt F) (mr.view.loc (c : Thread nD τ)))
    (hS : (mr.access (Rect.unit (s := sh2 n) ro (sh2 z).size hr)).set ⊆ S) (b : Body (F := F)) (Q : PUnit → sProp 𝕄) :
    iprop(pPts m ρ c ∗ gPts m ρ c ∗ (mr.view.loc (c : Thread nD τ) ↦[S]{q} f) ∗ (∃ fo, oPts c z oo ho fo))
      ⊢ iprop(((pPts m ρ c ∗ gPts m ρ c ∗ (mr.view.loc (c : Thread nD τ) ↦[S]{q} f)
            ∗ oPts c z oo ho (outWith m c z oo ho (norm z h (pLoad m ρ c z po hp)
                ((mr.access (Rect.unit (s := sh2 n) ro (sh2 z).size hr)).read (Elt F) f) (gLoad m ρ c)))) -∗ wpB c b Q)
          -∗ wpB c (normStep z h mr ro hr po hp oo ho b) Q) := by
  unfold normStep
  iintro ⟨Hp, Hg, Hm, ⟨%fo, Ho⟩⟩ Hk
  iapply (wp_load 𝒱₀ (c : Thread nD τ) none Set.univ (m := pM) (S := Finset.univ) (Finset.subset_univ _)) $$ Hp
  iintro Hp
  iapply (wp_load_rect 𝒱₀ (c : Thread nD τ) none Set.univ (m := mr) (r := Rect.unit (s := sh2 n) ro (sh2 z).size hr) (S := S) hS) $$ Hm
  iintro Hm
  iapply (wp_load 𝒱₀ (c : Thread nD τ) none Set.univ (m := gM) (S := Finset.univ) (Finset.subset_univ _)) $$ Hg
  iintro Hg
  iapply (wp_load_rect 𝒱₀ (c : Thread nD τ) none Set.univ (m := oM) (r := Rect.unit (s := S1024x1024) oo (sh2 z).size ho) (S := (oV z oo ho).set) Finset.Subset.rfl) $$ Ho
  iintro Ho
  iapply (wp_store 𝒱₀ (c : Thread nD τ) none Set.univ (m := oM) (r := Rect.unit (s := S1024x1024) oo (sh2 z).size ho) (S := (oV z oo ho).set) Finset.Subset.rfl) $$ Ho
  iintro Ho
  iapply Hk
  isplitl [Hp]; · iexact Hp
  isplitl [Hg]; · iexact Hg
  isplitl [Hm]; · iexact Hm
  iapply (Entails.of_eq (outWith_pts m c z oo ho _ fo)); iexact Ho

end Norm

end Cert.Exchange

end
-- ==== Proof.Pieces.lean ====
/-
# Buffers cut into chunks

A buffer held whole is its chunks held one by one: the sending buffer and the one receiving across y in nine, the one
receiving across x in eight and a rest no device writes, the result in the seventeen the body normalises.
-/
module

public import proofs.«01_k».proof.Proof.Moves

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cutting along a partition -/

section Cut
variable {I : Type} [Fintype I] [DecidableEq I] {ℓ : Loc nD τ sig} (l : List I) (hn : l.Nodup) (hl : ∀ k, k ∈ l)
  (S : I → Finset (Idx ℓ)) (part : Idx ℓ → I) (hS : ∀ k i, i ∈ S k ↔ part i = k) (q : PosShare TreeShare)
include hn hl hS

theorem cut (f : Buf (Elt F) ℓ) : (ℓ ↦{q} f : sProp 𝕄) = sepL (fun k => (ℓ ↦[S k]{q} f : sProp 𝕄)) l := by
  have hu : (Finset.univ : Finset (Idx ℓ)) = Finset.univ.biUnion S :=
    (Finset.eq_univ_iff_forall.mpr fun i => Finset.mem_biUnion.mpr ⟨part i, Finset.mem_univ _, (hS _ _).mpr rfl⟩).symm
  rw [← bigSep_list _ l hn hl]
  refine Eq.trans ?_ (pointsTo_biUnion Finset.univ S fun t _ t' _ ht => Finset.disjoint_left.mpr fun i h h' =>
    ht (((hS t i).mp h).symm.trans ((hS t' i).mp h')))
  rw [← hu]

/-- The chunks, each with its own contents, are the buffer with the contents they have where they are. -/
theorem glue (fs : I → Buf (Elt F) ℓ) : sepL (fun k => (ℓ ↦[S k]{q} fs k : sProp 𝕄)) l = (ℓ ↦{q} (fun i => fs (part i) i) : sProp 𝕄) := by
  rw [cut l hn hl S part hS q]
  refine sepL_congr l fun k _ => pointsTo_congr fun i hi => ?_
  rw [(hS k i).mp hi]

theorem glue_ex : sepL (fun k => (iprop(∃ f, ℓ ↦[S k]{q} f) : sProp 𝕄)) l ⊢ iprop(∃ f, ℓ ↦{q} f) := by
  rw [← bigSep_list _ l hn hl]
  refine (BI.bigSep_exists_pi _ _).trans ?_
  iintro ⟨%fs, H⟩
  iexists (fun i => fs (part i) i)
  rw [← glue l hn hl S part hS q fs, ← bigSep_list _ l hn hl]
  iexact H

theorem cut_ex : iprop(∃ f, ℓ ↦{q} f) ⊢ sepL (fun k => (iprop(∃ f, ℓ ↦[S k]{q} f) : sProp 𝕄)) l := by
  iintro ⟨%f, H⟩
  have h : ∀ k, (ℓ ↦[S k]{q} f : sProp 𝕄) ⊢ iprop(∃ f, ℓ ↦[S k]{q} f) := fun k => by iintro H; iexists f; iexact H
  iapply (sepL_mono l h)
  iapply (Entails.of_eq (cut l hn hl S part hS q f)); iexact H

end Cut

/-! ## The chunks across y -/

theorem all9_nodup : all9.Nodup := by decide
theorem all8_nodup : all8.Nodup := by decide

theorem mem_rows (o z : ℕ) {n : ℕ} (hb : ∀ a, (![o, 0] : Fin 2 → ℕ) a + (sh2 z).size a ≤ (sh2 n).size a) (i : (sh2 n).Idx) :
    i ∈ (Rect.unit (s := sh2 n) ![o, 0] (sh2 z).size hb).set ↔ o ≤ (i 0).val ∧ (i 0).val < o + z := by
  rw [Rect.mem_set_unit]
  have h1 : (i 1).val < 1024 := (i 1).isLt
  constructor
  · intro h; exact h 0
  · intro h a
    fin_cases a
    · exact h
    · exact ⟨Nat.zero_le _, by show (i 1).val < 0 + 1024; omega⟩

theorem mem_rows' {o z n : ℕ} {off : Fin 2 → ℕ} (e : off = ![o, 0]) (hb : ∀ a, off a + (sh2 z).size a ≤ (sh2 n).size a) (i : (sh2 n).Idx) :
    i ∈ (Rect.unit (s := sh2 n) off (sh2 z).size hb).set ↔ o ≤ (i 0).val ∧ (i 0).val < o + z := by
  subst e; exact mem_rows o z hb i

/-- The chunk across y that a row belongs to. -/
def partY (i : (sh2 544).Idx) : Fin 9 := ⟨(i 0).val / 64, by have : (i 0).val < 544 := (i 0).isLt; omega⟩

theorem mem_yR (k : Fin 9) (i : (sh2 544).Idx) : i ∈ (yR k).set ↔ partY i = k := by
  refine (mem_rows (64 * k.val) (yz k) (inY k) i).trans ?_
  have h : (i 0).val < 544 := (i 0).isLt
  have hk := k.isLt
  rw [Fin.ext_iff]
  show _ ↔ (i 0).val / 64 = k.val
  unfold yz
  split <;> omega

theorem mem_sY (k : Fin 9) (i : (sh2 544).Idx) : i ∈ (sY k).view.set ↔ partY i = k := by
  show i ∈ ((View.whole cc0_scratch0).slice (yR k)).set ↔ _
  rw [View.set_slice_whole]; exact mem_yR k i
theorem mem_rY (k : Fin 9) (i : (sh2 544).Idx) : i ∈ (rY k).view.set ↔ partY i = k := by
  show i ∈ ((View.whole cc0_scratch1).slice (yR k)).set ↔ _
  rw [View.set_slice_whole]; exact mem_yR k i

theorem sPts_cut (c : Dev nD) : iprop(∃ f, ((c : Thread nD τ).loc cc0_scratch0) ↦{fullShare} f) ⊢ sepL (fun k => (iprop(∃ f, sPts c k f) : sProp 𝕄)) all9 :=
  cut_ex (ℓ := (c : Thread nD τ).loc cc0_scratch0) all9 all9_nodup mem_all9 (fun k => (sY k).view.set) partY mem_sY fullShare
theorem sPts_glue (c : Dev nD) : sepL (fun k => (iprop(∃ f, sPts c k f) : sProp 𝕄)) all9 ⊢ iprop(∃ f, ((c : Thread nD τ).loc cc0_scratch0) ↦{fullShare} f) :=
  glue_ex (ℓ := (c : Thread nD τ).loc cc0_scratch0) all9 all9_nodup mem_all9 (fun k => (sY k).view.set) partY mem_sY fullShare
theorem rPts_cut (c : Dev nD) : iprop(∃ f, ((c : Thread nD τ).loc cc0_scratch1) ↦{fullShare} f) ⊢ sepL (fun k => (iprop(∃ f, rPts c k f) : sProp 𝕄)) all9 :=
  cut_ex (ℓ := (c : Thread nD τ).loc cc0_scratch1) all9 all9_nodup mem_all9 (fun k => (rY k).view.set) partY mem_rY fullShare
theorem rPts_glue (c : Dev nD) : sepL (fun k => (iprop(∃ f, rPts c k f) : sProp 𝕄)) all9 ⊢ iprop(∃ f, ((c : Thread nD τ).loc cc0_scratch1) ↦{fullShare} f) :=
  glue_ex (ℓ := (c : Thread nD τ).loc cc0_scratch1) all9 all9_nodup mem_all9 (fun k => (rY k).view.set) partY mem_rY fullShare

/-! ## The chunks across x -/

theorem inRest : ∀ a, (![480, 0] : Fin 2 → ℕ) a + (sh2 32).size a ≤ S512x1024.size a := by decide

/-- The chunks of the buffer receiving across x, and the rows after them. -/
def xSet : Option (Fin 8) → Finset (sh2 512).Idx
  | some k => (xX k).view.set
  | none => (Rect.unit (s := sh2 512) ![480, 0] (sh2 32).size inRest).set
def partX (i : (sh2 512).Idx) : Option (Fin 8) :=
  if 480 ≤ (i 0).val then none else some ⟨(i 0).val / 64, by have : (i 0).val < 512 := (i 0).isLt; omega⟩

theorem mem_xX (k : Fin 8) (i : (sh2 512).Idx) : i ∈ (xX k).view.set ↔ 64 * k.val ≤ (i 0).val ∧ (i 0).val < 64 * k.val + xz k := by
  show i ∈ ((View.whole cc0_scratch2).slice (xR k)).set ↔ _
  rw [View.set_slice_whole]
  exact mem_rows (64 * k.val) (xz k) (inX k) i

theorem mem_xSet (k : Option (Fin 8)) (i : (sh2 512).Idx) : i ∈ xSet k ↔ partX i = k := by
  have h : (i 0).val < 512 := (i 0).isLt
  unfold partX
  cases k with
  | none =>
    refine (mem_rows 480 32 inRest i).trans ?_
    split <;> simp <;> omega
  | some k =>
    refine (mem_xX k i).trans ?_
    have hk := k.isLt
    unfold xz
    split_ifs <;> simp [Fin.ext_iff] <;> omega

abbrev allX : List (Option (Fin 8)) := none :: all8.map some
theorem allX_nodup : allX.Nodup := by decide
theorem mem_allX : ∀ k, k ∈ allX := by decide

/-- The rows after the chunks, which the device keeps. -/
abbrev xRest (c : Dev nD) : sProp 𝕄 := iprop(∃ f : Buf (Elt F) ((c : Thread nD τ).loc cc0_scratch2), ((c : Thread nD τ).loc cc0_scratch2) ↦[xSet none]{fullShare} f)

theorem xPts_cut (c : Dev nD) : iprop(∃ f, ((c : Thread nD τ).loc cc0_scratch2) ↦{fullShare} f) ⊢ iprop(xRest c ∗ sepL (fun k => (iprop(∃ f, xPts c k f) : sProp 𝕄)) all8) := by
  refine (cut_ex (ℓ := (c : Thread nD τ).loc cc0_scratch2) allX allX_nodup mem_allX xSet partX mem_xSet fullShare).trans (Entails.of_eq ?_)
  show iprop(_ ∗ sepL _ (all8.map some)) = _
  rw [sepL_map]; rfl
theorem xPts_glue (c : Dev nD) : iprop(xRest c ∗ sepL (fun k => (iprop(∃ f, xPts c k f) : sProp 𝕄)) all8) ⊢ iprop(∃ f, ((c : Thread nD τ).loc cc0_scratch2) ↦{fullShare} f) := by
  refine (Entails.of_eq ?_).trans (glue_ex (ℓ := (c : Thread nD τ).loc cc0_scratch2) allX allX_nodup mem_allX xSet partX mem_xSet fullShare)
  show _ = iprop(_ ∗ sepL _ (all8.map some))
  rw [sepL_map]; rfl

/-! ## A received chunk in two half shares -/

theorem mem_rX (k : Fin 8) (i : (sh2 544).Idx) : i ∈ (rX k).view.set ↔ 64 * k.val ≤ (i 0).val ∧ (i 0).val < 64 * k.val + xz k := by
  show i ∈ ((View.whole cc0_scratch1).slice (xyR k)).set ↔ _
  rw [View.set_slice_whole]
  exact mem_rows (64 * k.val) (xz k) (inXY k) i

theorem rX_sub (k : Fin 8) : (rX k).view.set ⊆ (rY k.castSucc).view.set := fun i hi => by
  have h := (mem_rX k i).mp hi
  refine (mem_rY k.castSucc i).mpr (Fin.ext ?_)
  have hk := k.isLt
  show (i 0).val / 64 = k.val
  have h2 := h.2
  unfold xz at h2
  split at h2 <;> omega

/-- What stays of a received chunk when a half share of its part passed on is away: the other half, and this half's rest. -/
abbrev rKept (c : Dev nD) (k : Fin 8) (f : (cc0_scratch1 : Ref sig .tc).ty.Contents (Elt F)) : sProp 𝕄 :=
  (rY k.castSucc).view.loc (c : Thread nD τ) ↦[(rY k.castSucc).view.set]{fullShare.right} f
abbrev rIdle (c : Dev nD) (k : Fin 8) (f : (cc0_scratch1 : Ref sig .tc).ty.Contents (Elt F)) : sProp 𝕄 :=
  (rY k.castSucc).view.loc (c : Thread nD τ) ↦[(rY k.castSucc).view.set \ (rX k).view.set]{fullShare.left} f

theorem rPts_share (c : Dev nD) (k : Fin 8) (f : (cc0_scratch1 : Ref sig .tc).ty.Contents (Elt F)) :
    rPts c k.castSucc f ⊣⊢ iprop((rxPts c k f ∗ rIdle c k f) ∗ rKept c k f) := by
  have h1 : rPts c k.castSucc f ⊣⊢ iprop(((rY k.castSucc).view.loc (c : Thread nD τ) ↦[(rY k.castSucc).view.set]{fullShare.left} f) ∗ rKept c k f) :=
    pointsTo_share (PosShare.mem_left_op_right fullShare)
  have h2 : ((rY k.castSucc).view.loc (c : Thread nD τ) ↦[(rY k.castSucc).view.set]{fullShare.left} f : sProp 𝕄) ⊣⊢ iprop(rxPts c k f ∗ rIdle c k f) :=
    pointsTo_split_subset (rX_sub k)
  exact ⟨h1.1.trans (BI.sep_mono h2.1 (Entails.refl _)), (BI.sep_mono h2.2 (Entails.refl _)).trans h1.2⟩

/-! ## The result's chunks -/

/-- Kept from y and normalised; arrived across x; the tail. -/
abbrev OP : Type := Fin 8 ⊕ Fin 8 ⊕ Unit

abbrev oz : OP → ℕ
  | .inl _ => 64
  | .inr (.inl k) => xz k
  | .inr (.inr _) => 32
abbrev ooff (c : Dev nD) : OP → Fin 2 → ℕ
  | .inl k => dirO c k
  | .inr (.inl k) => othO c k
  | .inr (.inr _) => k0_off7 c
theorem oinb (c : Dev nD) : ∀ p : OP, ∀ a, ooff c p a + (sh2 (oz p)).size a ≤ S1024x1024.size a
  | .inl k => k0_off5_inb c k
  | .inr (.inl k) => othO_inb c k
  | .inr (.inr _) => k0_off7_inb c

/-- The first row of a chunk. -/
def orow (c : Dev nD) : OP → ℕ
  | .inl k => 512 * dx c + 64 * k.val
  | .inr (.inl k) => 512 * (1 - dx c) + 64 * k.val
  | .inr (.inr _) => 512 * (1 - dx c) + 480

theorem ooff_eq : ∀ (c : Dev nD) (p : OP), ooff c p = ![orow c p, 0] := by decide +kernel

/-- The chunk a row of the result belongs to. -/
def opart (c : Dev nD) (i : (sh2 1024).Idx) : OP :=
  if (i 0).val / 512 = dx c then .inl ⟨(i 0).val % 512 / 64, by omega⟩
  else if 480 ≤ (i 0).val % 512 then .inr (.inr ()) else .inr (.inl ⟨(i 0).val % 512 / 64, by omega⟩)

theorem mem_oV (c : Dev nD) (p : OP) (i : (sh2 1024).Idx) : i ∈ (oV (oz p) (ooff c p) (oinb c p)).set ↔ opart c i = p := by
  have e : i ∈ (oV (oz p) (ooff c p) (oinb c p)).set ↔ orow c p ≤ (i 0).val ∧ (i 0).val < orow c p + oz p := by
    show i ∈ ((View.whole cc0_stg2_0).slice (Rect.unit (s := S1024x1024) (ooff c p) (sh2 (oz p)).size (oinb c p))).set ↔ _
    rw [View.set_slice_whole]
    exact mem_rows' (ooff_eq c p) _ i
  refine e.trans ?_
  clear e
  have h : (i 0).val < 1024 := (i 0).isLt
  have hd := dx_lt c
  unfold opart
  rcases p with k | k | _
  · have hk := k.isLt
    show (512 * dx c + 64 * k.val ≤ (i 0).val ∧ (i 0).val < 512 * dx c + 64 * k.val + 64) ↔ _
    split_ifs <;> simp only [Sum.inl.injEq, reduceCtorEq, Fin.ext_iff, iff_false] <;> omega
  · have hk := k.isLt
    show (512 * (1 - dx c) + 64 * k.val ≤ (i 0).val ∧ (i 0).val < 512 * (1 - dx c) + 64 * k.val + xz k) ↔ _
    unfold xz
    split_ifs <;> simp only [Sum.inl.injEq, Sum.inr.injEq, reduceCtorEq, Fin.ext_iff, iff_false] <;> omega
  · show (512 * (1 - dx c) + 480 ≤ (i 0).val ∧ (i 0).val < 512 * (1 - dx c) + 480 + 32) ↔ _
    split_ifs <;> simp only [Sum.inr.injEq, reduceCtorEq, iff_false, iff_true] <;> omega

abbrev allO : List OP := all8.map .inl ++ (all8.map (fun k => .inr (.inl k)) ++ [.inr (.inr ())])
theorem allO_nodup : allO.Nodup := by decide
theorem mem_allO : ∀ p, p ∈ allO
  | .inl k => List.mem_append_left _ (List.mem_map.mpr ⟨k, mem_all8 k, rfl⟩)
  | .inr (.inl k) => List.mem_append_right _ (List.mem_append_left _ (List.mem_map.mpr ⟨k, mem_all8 k, rfl⟩))
  | .inr (.inr _) => List.mem_append_right _ (List.mem_append_right _ (List.mem_singleton.mpr rfl))

/-- What each chunk of the result holds in the end. -/
def blk (c : Dev nD) : (p : OP) → FVec F (sh2 (oz p)) .f32
  | .inl k => norm 64 chunk64 (pLoad m ρ c 64 (dirP c k) (k0_off4_inb c k))
      ((rM.access (Rect.unit (s := sh2 544) ![64 * k.val, 0] (sh2 64).size (by revert k; decide))).read (Elt F) (gotY m ρ c)) (gLoad m ρ c)
  | .inr (.inl k) => norm (xz k) (chunkX k) (pLoad m ρ c (xz k) (othP c k) (othP_inb c k))
      ((xM.access (Rect.unit (s := sh2 512) ![64 * k.val, 0] (sh2 (xz k)).size (inX k))).read (Elt F) (gotX m ρ c)) (gLoad m ρ c)
  | .inr (.inr _) => norm 32 chunk32 (pLoad m ρ c 32 (k0_off6 c) (k0_off6_inb c))
      ((rM.access (Rect.unit (s := sh2 544) ![512, 0] (sh2 32).size inb_S544x1024_S32x1024_512_0)).read (Elt F) (gotY m ρ c)) (gLoad m ρ c)

abbrev oPiece (c : Dev nD) (p : OP) (f : (cc0_stg2_0 : Ref sig .tc).ty.Contents (Elt F)) : sProp 𝕄 := oPts c (oz p) (ooff c p) (oinb c p) f
/-- The result buffer with chunk `p` written; with all of them. -/
def outOf (c : Dev nD) (p : OP) : (cc0_stg2_0 : Ref sig .tc).ty.Contents (Elt F) :=
  outWith m c (oz p) (ooff c p) (oinb c p) (blk m ρ c p)
def outAt (c : Dev nD) : (cc0_stg2_0 : Ref sig .tc).ty.Contents (Elt F) := fun i => outOf m ρ c (opart c i) i

theorem oPts_cut (c : Dev nD) : iprop(∃ f, ((c : Thread nD τ).loc cc0_stg2_0) ↦{fullShare} f) ⊢ sepL (fun p => (iprop(∃ f, oPiece c p f) : sProp 𝕄)) allO :=
  cut_ex (ℓ := (c : Thread nD τ).loc cc0_stg2_0) allO allO_nodup mem_allO (fun p => (oV (oz p) (ooff c p) (oinb c p)).set) (opart c) (mem_oV c) fullShare
theorem oPts_glue (c : Dev nD) : sepL (fun p => (oPiece c p (outOf m ρ c p) : sProp 𝕄)) allO = (((c : Thread nD τ).loc cc0_stg2_0) ↦{fullShare} outAt m ρ c : sProp 𝕄) :=
  glue (ℓ := (c : Thread nD τ).loc cc0_stg2_0) allO allO_nodup mem_allO (fun p => (oV (oz p) (ooff c p) (oinb c p)).set) (opart c) (mem_oV c) fullShare (outOf m ρ c)

end Cert.Exchange

end
-- ==== Proof.Phases.lean ====
/-
# The body's phases

The chunks stored and sent across y; the chunks received from there, passed on across x and normalised; the chunks
received across x; the waits for what was sent to have left. Each is one loop or two, from the rules of the steps.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-! ## Waits -/

/-- What a wait at a cell takes besides what is owed, and what it gives. -/
abbrev ready (k : Kd) : sProp 𝕄 := iprop(posn c k ∗ crd c k)
abbrev done (k : Kd) : sProp 𝕄 := iprop(pay m ρ c k ∗ zero c k)

theorem wp_wait (k : Kd) (l : List Kd) (hl : ∀ j ∈ l, lvl k < lvl j) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem k) (amt k) R)
    (b : PUnit → Body (F := F)) (Q : PUnit → sProp 𝕄) :
    iprop(ready c k ∗ ctx m ρ K ∗ owing c l) ⊢ iprop(((done m ρ c k ∗ owing c l) -∗ wpB c (b ⟨⟩) Q) -∗ wpB c (.op w b) Q) := by
  have h := @wp_waitCell F _ m ρ K c k l hl w hw b Q
  iintro ⟨⟨Hp, Hc⟩, #Hctx, Ho⟩ Hk
  iapply h $$ [Hp Hc Ho]
  · isplitr; · iexact Hctx
    isplitl [Hp]; · iexact Hp
    isplitl [Hc] <;> iassumption
  iintro ⟨Ho, Hpay, Hz⟩
  iapply Hk
  isplitr [Ho]
  · isplitl [Hpay] <;> iassumption
  iexact Ho

theorem lvl_y (k : Kd) (h : lvl k < 2) (l : List (Fin 9)) (l' : List (Fin 8)) : ∀ j ∈ l.map yr ++ l'.map xr, lvl k < lvl j := fun j hj => by
  rcases List.mem_append.mp hj with hj | hj
  · obtain ⟨i, _, rfl⟩ := List.mem_map.mp hj; exact h
  · obtain ⟨i, _, rfl⟩ := List.mem_map.mp hj; exact lt_trans h (by decide : 2 < 3)
theorem lvl_x (k : Kd) (h : lvl k < 3) (l' : List (Fin 8)) : ∀ j ∈ l'.map xr, lvl k < lvl j := fun j hj => by
  obtain ⟨i, _, rfl⟩ := List.mem_map.mp hj; exact h

theorem pay_kb : pay m ρ c kb = sepL (fun k => iprop(∃ f, rPts (yp c) k f)) all9 := rfl
theorem pay_kr : pay m ρ c kr = sepL (fun k => iprop(∃ f, xPts (xp c) k f)) all8 := rfl
theorem pay_ys (k : Fin 9) : pay m ρ c (ys k) = iprop(∃ f, sPts c k f) := rfl
theorem pay_yr (k : Fin 9) : pay m ρ c (yr k) = rPts c k (gotY m ρ c) := rfl
theorem pay_xs (k : Fin 8) : pay m ρ c (xs k) = rxPts c k (gotY m ρ c) := rfl
theorem pay_xr (k : Fin 8) : pay m ρ c (xr k) = xPts c k (gotX m ρ c) := rfl

theorem sepL9 (Φ : Fin 9 → sProp 𝕄) : sepL Φ all9 = iprop(Φ 0 ∗ sepL Φ [1, 2, 3, 4, 5, 6, 7, 8]) := rfl
theorem sepL8 (Φ : Fin 8 → sProp 𝕄) : sepL Φ all8 = iprop(Φ 0 ∗ sepL Φ [1, 2, 3, 4, 5, 6, 7]) := rfl

/-! ## Chunks stored and sent across y -/

/-- What a chunk's send across y takes besides its rows. -/
abbrev yGo (k : Fin 9) : sProp 𝕄 := iprop((∃ f, rPts (yp c) k f) ∗ tok c (ys k) ∗ tok c (yr k))

theorem wp_storeSend (k : Fin 9) (l : List (Fin 9)) (b : Body (F := F)) (Q : PUnit → sProp 𝕄) :
    iprop(((∃ f, sPts c k f) ∗ yGo c k) ∗ ctx m ρ K ∗ pPts m ρ c ∗ owing c ((k :: l).map yr ++ all8.map xr))
      ⊢ iprop(((crd c (ys k) ∗ ctx m ρ K ∗ pPts m ρ c ∗ owing c (l.map yr ++ all8.map xr)) -∗ wpB c b Q) -∗ wpB c (storeStep c k (ySend c k b)) Q) := by
  iintro ⟨⟨Hs, Hd, Ht1, Ht2⟩, #Hctx, Hp, Ho⟩ Hk
  iapply (wp_storeStep m ρ c k (ySend c k b) Q) $$ [Hp Hs]
  · isplitl [Hp] <;> iassumption
  iintro ⟨Hp, Hs⟩
  iapply (wp_ySend m ρ K c k (l.map yr ++ all8.map xr) b Q) $$ [Ho Hs Hd Ht1 Ht2]
  · isplitr; · iexact Hctx
    isplitl [Ho]; · iexact Ho
    isplitl [Hs]; · iexact Hs
    isplitl [Hd]; · iexact Hd
    isplitl [Ht1] <;> iassumption
  iintro ⟨Ho, Hc⟩
  iapply Hk
  isplitl [Hc]; · iexact Hc
  isplitr; · iexact Hctx
  isplitl [Hp] <;> iassumption

theorem wp_phaseY (Q : PUnit → sProp 𝕄) :
    iprop(ctx m ρ K ∗ pPts m ρ c ∗ owing c (all9.map yr ++ all8.map xr) ∗ ready c kb
        ∗ sepL (fun k => iprop(∃ f, sPts c k f)) all9 ∗ sepL (fun k => tok c (ys k)) all9 ∗ sepL (fun k => tok c (yr k)) all9)
      ⊢ iprop(((pPts m ρ c ∗ owing c (all8.map xr) ∗ zero c kb ∗ sepL (fun k => crd c (ys k)) all9) -∗ wpB c (phaseD c) Q)
          -∗ wpB c (phaseY c) Q) := by
  have hw := @wp_wait F _ m ρ K c kb (all9.map yr ++ all8.map xr) (lvl_y kb (by decide) all9 all8) (.semWait barS (1#32 : BitVec 32).toInt)
    (fun R => wpE_semWait_eq 𝒱₀ (c : Thread nD τ) none Set.univ R)
  have hloop := wp_loop c (fun k b => storeStep c k (ySend c k b)) (fun k => iprop((∃ f, sPts c k f) ∗ yGo c k)) (fun k => crd c (ys k))
    (fun l => iprop(ctx m ρ K ∗ pPts m ρ c ∗ owing c (l.map yr ++ all8.map xr)))
    (fun k l b Q => wp_storeSend m ρ K c k l b Q) (phaseD c) Q [1, 2, 3, 4, 5, 6, 7, 8]
  unfold phaseY
  simp only [sepL9]
  iintro ⟨#Hctx, Hp, Ho, Hr, ⟨Hs0, Hs⟩, ⟨Ht0, Ht⟩, ⟨Hu0, Hu⟩⟩ Hk
  iapply (wp_storeStep m ρ c 0 _ Q) $$ [Hp Hs0]
  · isplitl [Hp] <;> iassumption
  iintro ⟨Hp, Hs0⟩
  iapply (hw _ Q) $$ [Hr Ho]
  · isplitl [Hr]; · iexact Hr
    isplitr; · iexact Hctx
    iexact Ho
  iintro ⟨⟨Hd, Hz⟩, Ho⟩
  ihave Hd := (Entails.of_eq ((pay_kb m ρ c).trans (sepL9 _))) $$ Hd
  icases Hd with ⟨Hd0, Hd⟩
  iapply (wp_ySend m ρ K c 0 ([1, 2, 3, 4, 5, 6, 7, 8].map yr ++ all8.map xr) _ Q) $$ [Ho Hs0 Hd0 Ht0 Hu0]
  · isplitr; · iexact Hctx
    isplitl [Ho]; · iexact Ho
    isplitl [Hs0]; · iexact Hs0
    isplitl [Hd0]; · iexact Hd0
    isplitl [Ht0] <;> iassumption
  iintro ⟨Ho, Hc0⟩
  iapply hloop $$ [Hs Hd Ht Hu Hp Ho]
  · isplitl [Hs Hd Ht Hu]
    · rw [sepL_sep, sepL_sep, sepL_sep]
      isplitl [Hs]; · iexact Hs
      isplitl [Hd]; · iexact Hd
      isplitl [Ht] <;> iassumption
    isplitr; · iexact Hctx
    isplitl [Hp] <;> iassumption
  iintro ⟨Hc, -, Hp, Ho⟩
  iapply Hk
  isplitl [Hp]; · iexact Hp
  isplitl [Ho]; · iexact Ho
  isplitl [Hz]; · iexact Hz
  isplitl [Hc0] <;> iassumption

/-! ## Chunks received from across y -/

/-- What passing a chunk on across x and normalising it takes, besides its rows; what they give. -/
abbrev dGo (k : Fin 8) : sProp 𝕄 := iprop(((∃ f, xPts (xp c) k f) ∗ tok c (xs k) ∗ tok c (xr k)) ∗ ∃ f, oPiece c (.inl k) f)
abbrev dDone (k : Fin 8) : sProp 𝕄 :=
  iprop(crd c (xs k) ∗ rIdle c k (gotY m ρ c) ∗ rKept c k (gotY m ρ c) ∗ oPiece c (.inl k) (outOf m ρ c (.inl k)))

theorem acc_sub (k : Fin 8) (h : ∀ a, (![64 * k.val, 0] : Fin 2 → ℕ) a + (sh2 64).size a ≤ (sh2 544).size a) :
    (rM.access (Rect.unit (s := sh2 544) ![64 * k.val, 0] (sh2 64).size h)).set ⊆ (rY k.castSucc).view.set := fun i hi => by
  have hi' : i ∈ ((View.whole cc0_scratch1).slice (Rect.unit (s := sh2 544) ![64 * k.val, 0] (sh2 64).size h)).set := hi
  rw [View.set_slice_whole] at hi'
  have h2 := (mem_rows _ _ h i).mp hi'
  refine (mem_rY k.castSucc i).mpr (Fin.ext ?_)
  show (i 0).val / 64 = k.val
  omega

theorem wp_dirNorm (k : Fin 8) (b : Body (F := F)) (Q : PUnit → sProp 𝕄) :
    iprop(pPts m ρ c ∗ gPts m ρ c ∗ rKept c k (gotY m ρ c) ∗ (∃ f, oPiece c (.inl k) f))
      ⊢ iprop(((pPts m ρ c ∗ gPts m ρ c ∗ rKept c k (gotY m ρ c) ∗ oPiece c (.inl k) (outOf m ρ c (.inl k))) -∗ wpB c b Q) -∗ wpB c (dirNorm c k b) Q) :=
  wp_normStep m ρ c 64 (dirO c k) (k0_off5_inb c k) chunk64 rM ![64 * k.val, 0] (by revert k; decide) (dirP c k) (k0_off4_inb c k)
    (gotY m ρ c) (acc_sub k _) b Q

theorem wp_pass (k : Fin 8) (l : List (Fin 8)) (b : Body (F := F)) (Q : PUnit → sProp 𝕄) :
    iprop(rPts c k.castSucc (gotY m ρ c) ∗ dGo c k ∗ ctx m ρ K ∗ (pPts m ρ c ∗ gPts m ρ c) ∗ owing c ((k :: l).map xr))
      ⊢ iprop(((dDone m ρ c k ∗ (pPts m ρ c ∗ gPts m ρ c) ∗ owing c (l.map xr)) -∗ wpB c b Q) -∗ wpB c (xSend c k (dirNorm c k b)) Q) := by
  iintro ⟨Hr, ⟨⟨Hx, Ht1, Ht2⟩, Hout⟩, #Hctx, ⟨Hp, Hg⟩, Ho⟩ Hk
  ihave Hr' := (rPts_share c k (gotY m ρ c)).1 $$ Hr
  icases Hr' with ⟨⟨Hrx, Hri⟩, Hrk⟩
  iapply (wp_xSend m ρ K c k (l.map xr) _ Q) $$ [Ho Hrx Hx Ht1 Ht2]
  · isplitr; · iexact Hctx
    isplitl [Ho]; · iexact Ho
    isplitl [Hrx]; · iexact Hrx
    isplitl [Hx]; · iexact Hx
    isplitl [Ht1] <;> iassumption
  iintro ⟨Ho, Hc⟩
  iapply (wp_dirNorm m ρ c k b Q) $$ [Hp Hg Hrk Hout]
  · isplitl [Hp]; · iexact Hp
    isplitl [Hg]; · iexact Hg
    isplitl [Hrk] <;> iassumption
  iintro ⟨Hp, Hg, Hrk, Hout⟩
  iapply Hk
  isplitr [Hp Hg Ho]
  · isplitl [Hc]; · iexact Hc
    isplitl [Hri]; · iexact Hri
    isplitl [Hrk] <;> iassumption
  isplitl [Hp Hg]
  · isplitl [Hp] <;> iassumption
  iexact Ho

theorem wp_yRecv (k : Fin 9) (l : List (Fin 8)) (b : Body (F := F)) (Q : PUnit → sProp 𝕄) :
    iprop(ready c (yr k) ∗ ctx m ρ K ∗ owing c (l.map xr))
      ⊢ iprop(((done m ρ c (yr k) ∗ owing c (l.map xr)) -∗ wpB c b Q) -∗ wpB c (yRecv k b) Q) :=
  @wp_wait F _ m ρ K c (yr k) (l.map xr) (lvl_x (yr k) (by decide : 2 < 3) l) _ (fun R => wpE_waitDma2_eq 𝒱₀ (c : Thread nD τ) none Set.univ R) (fun _ => b) Q

theorem wp_recvPass (k : Fin 8) (l : List (Fin 8)) (b : Body (F := F)) (Q : PUnit → sProp 𝕄) :
    iprop((ready c (yr k.castSucc) ∗ dGo c k) ∗ ctx m ρ K ∗ (pPts m ρ c ∗ gPts m ρ c) ∗ owing c ((k :: l).map xr))
      ⊢ iprop((((zero c (yr k.castSucc) ∗ dDone m ρ c k) ∗ ctx m ρ K ∗ (pPts m ρ c ∗ gPts m ρ c) ∗ owing c (l.map xr)) -∗ wpB c b Q)
          -∗ wpB c (yRecv k.castSucc (xSend c k (dirNorm c k b))) Q) := by
  iintro ⟨⟨Hr, Hd⟩, #Hctx, Hpg, Ho⟩ Hk
  iapply (wp_yRecv m ρ K c k.castSucc (k :: l) _ Q) $$ [Hr Ho]
  · isplitl [Hr]; · iexact Hr
    isplitr; · iexact Hctx
    iexact Ho
  iintro ⟨⟨Hr, Hz⟩, Ho⟩
  ihave Hr := (Entails.of_eq (pay_yr m ρ c k.castSucc)) $$ Hr
  iapply (wp_pass m ρ K c k l b Q) $$ [Hr Hd Hpg Ho]
  · isplitl [Hr]; · iexact Hr
    isplitl [Hd]; · iexact Hd
    isplitr; · iexact Hctx
    isplitl [Hpg] <;> iassumption
  iintro ⟨Hd, Hpg, Ho⟩
  iapply Hk
  isplitl [Hz Hd]
  · isplitl [Hz] <;> iassumption
  isplitr; · iexact Hctx
  isplitl [Hpg] <;> iassumption

theorem tail_sub : (rM.access (Rect.unit (s := sh2 544) ![512, 0] (sh2 32).size inb_S544x1024_S32x1024_512_0)).set ⊆ (rY 8).view.set := fun i hi => by
  have hi' : i ∈ ((View.whole cc0_scratch1).slice (Rect.unit (s := sh2 544) ![512, 0] (sh2 32).size inb_S544x1024_S32x1024_512_0)).set := hi
  rw [View.set_slice_whole] at hi'
  have h2 := (mem_rows _ _ _ i).mp hi'
  refine (mem_rY 8 i).mpr (Fin.ext ?_)
  show (i 0).val / 64 = 8
  omega

abbrev oTail : OP := .inr (.inr ())
abbrev oOth (k : Fin 8) : OP := .inr (.inl k)

theorem wp_tailNorm (b : Body (F := F)) (Q : PUnit → sProp 𝕄) :
    iprop(pPts m ρ c ∗ gPts m ρ c ∗ rPts c 8 (gotY m ρ c) ∗ (∃ f, oPiece c oTail f))
      ⊢ iprop(((pPts m ρ c ∗ gPts m ρ c ∗ rPts c 8 (gotY m ρ c) ∗ oPiece c oTail (outOf m ρ c oTail)) -∗ wpB c b Q) -∗ wpB c (tailNorm c b) Q) :=
  wp_normStep m ρ c 32 (k0_off7 c) (k0_off7_inb c) chunk32 rM ![512, 0] inb_S544x1024_S32x1024_512_0 (k0_off6 c) (k0_off6_inb c)
    (gotY m ρ c) tail_sub b Q

theorem dGo_split (l : List (Fin 8)) :
    sepL (fun k : Fin 8 => iprop(ready (F := F) c (yr k.castSucc) ∗ dGo c k)) l
      = iprop(sepL (fun k : Fin 8 => ready c (yr k.castSucc)) l
          ∗ (sepL (fun k => iprop(∃ f, xPts (xp c) k f)) l ∗ sepL (fun k => tok c (xs k)) l ∗ sepL (fun k => tok c (xr k)) l)
          ∗ sepL (fun k => iprop(∃ f, oPiece c (.inl k) f)) l) := by
  rw [← sepL_sep (fun k => tok c (xs k)) (fun k => tok c (xr k)) l,
    ← sepL_sep (fun k => iprop(∃ f, xPts (xp c) k f)) (fun k => iprop(tok c (xs k) ∗ tok c (xr k))) l,
    ← sepL_sep _ (fun k => iprop(∃ f, oPiece c (.inl k) f)) l, ← sepL_sep (fun k : Fin 8 => ready c (yr k.castSucc)) _ l]

theorem wp_phaseD (Q : PUnit → sProp 𝕄) :
    iprop(ctx m ρ K ∗ (pPts m ρ c ∗ gPts m ρ c) ∗ owing c (all8.map xr) ∗ ready c kr
        ∗ (sepL (fun k : Fin 8 => ready c (yr k.castSucc)) all8 ∗ ready c (yr 8))
        ∗ sepL (fun k => tok c (xs k)) all8 ∗ sepL (fun k => tok c (xr k)) all8
        ∗ sepL (fun k : Fin 8 => iprop(∃ f, oPiece c (.inl k) f)) all8 ∗ ∃ f, oPiece c oTail f)
      ⊢ iprop((((pPts m ρ c ∗ gPts m ρ c) ∗ owing c [] ∗ zero c kr ∗ (sepL (fun k : Fin 8 => zero c (yr k.castSucc)) all8 ∗ zero c (yr 8))
            ∗ sepL (dDone m ρ c) all8 ∗ rPts c 8 (gotY m ρ c) ∗ oPiece c oTail (outOf m ρ c oTail)) -∗ wpB c (phaseX c) Q)
          -∗ wpB c (phaseD c) Q) := by
  have hw := @wp_wait F _ m ρ K c kr (all8.map xr) (lvl_x kr (by decide) all8) (.semWait rdyS (1#32 : BitVec 32).toInt)
    (fun R => wpE_semWait_eq 𝒱₀ (c : Thread nD τ) none Set.univ R)
  have hloop := wp_loop c (fun (k : Fin 8) b => yRecv k.castSucc (xSend c k (dirNorm c k b))) (fun k => iprop(ready c (yr k.castSucc) ∗ dGo c k))
    (fun k => iprop(zero c (yr k.castSucc) ∗ dDone m ρ c k))
    (fun l => iprop(ctx m ρ K ∗ (pPts m ρ c ∗ gPts m ρ c) ∗ owing c (l.map xr)))
    (fun k l b Q => wp_recvPass m ρ K c k l b Q) (yRecv 8 (tailNorm c (phaseX c))) Q [1, 2, 3, 4, 5, 6, 7]
  unfold phaseD
  simp only [sepL8]
  iintro ⟨#Hctx, Hpg, Ho, Hkr, ⟨⟨Hr0, Hr⟩, Hr8⟩, ⟨Ht0, Ht⟩, ⟨Hu0, Hu⟩, ⟨Hq0, Hq⟩, Hq8⟩ Hk
  iapply (wp_yRecv m ρ K c 0 all8 _ Q) $$ [Hr0 Ho]
  · isplitl [Hr0]; · iexact Hr0
    isplitr; · iexact Hctx
    iexact Ho
  iintro ⟨⟨Hr0, Hz0⟩, Ho⟩
  ihave Hr0 := (Entails.of_eq (pay_yr m ρ c 0)) $$ Hr0
  iapply (hw _ Q) $$ [Hkr Ho]
  · isplitl [Hkr]; · iexact Hkr
    isplitr; · iexact Hctx
    iexact Ho
  iintro ⟨⟨Hd, Hzr⟩, Ho⟩
  ihave Hd := (Entails.of_eq ((pay_kr m ρ c).trans (sepL8 _))) $$ Hd
  icases Hd with ⟨Hd0, Hd⟩
  iapply (wp_pass m ρ K c 0 [1, 2, 3, 4, 5, 6, 7] _ Q) $$ [Hr0 Hd0 Ht0 Hu0 Hq0 Hpg Ho]
  · isplitl [Hr0]; · iexact Hr0
    isplitl [Hd0 Ht0 Hu0 Hq0]
    · isplitr [Hq0]
      · isplitl [Hd0]; · iexact Hd0
        isplitl [Ht0] <;> iassumption
      iexact Hq0
    isplitr; · iexact Hctx
    isplitl [Hpg] <;> iassumption
  iintro ⟨He0, Hpg, Ho⟩
  iapply hloop $$ [Hr Hd Ht Hu Hq Hpg Ho]
  · isplitl [Hr Hd Ht Hu Hq]
    · iapply (Entails.of_eq (dGo_split (F := F) c _).symm)
      isplitl [Hr]; · iexact Hr
      isplitr [Hq]
      · isplitl [Hd]; · iexact Hd
        isplitl [Ht] <;> iassumption
      iexact Hq
    isplitr; · iexact Hctx
    isplitl [Hpg] <;> iassumption
  iintro ⟨Hze, -, Hpg, Ho⟩
  ihave Hze := (Entails.of_eq (sepL_sep (fun k : Fin 8 => zero (F := F) c (yr k.castSucc)) (dDone m ρ c) _)) $$ Hze
  icases Hze with ⟨Hz, He⟩
  iapply (wp_yRecv m ρ K c 8 [] _ Q) $$ [Hr8 Ho]
  · isplitl [Hr8]; · iexact Hr8
    isplitr; · iexact Hctx
    iexact Ho
  iintro ⟨⟨Hr8, Hz8⟩, Ho⟩
  ihave Hr8 := (Entails.of_eq (pay_yr m ρ c 8)) $$ Hr8
  icases Hpg with ⟨Hp, Hg⟩
  iapply (wp_tailNorm m ρ c _ Q) $$ [Hp Hg Hr8 Hq8]
  · isplitl [Hp]; · iexact Hp
    isplitl [Hg]; · iexact Hg
    isplitl [Hr8] <;> iassumption
  iintro ⟨Hp, Hg, Hr8, Hq8⟩
  iapply Hk
  isplitl [Hp Hg]
  · isplitl [Hp] <;> iassumption
  isplitl [Ho]; · iexact Ho
  isplitl [Hzr]; · iexact Hzr
  isplitl [Hz0 Hz Hz8]
  · isplitr [Hz8]
    · isplitl [Hz0]; · iexact Hz0
      iexact Hz
    iexact Hz8
  isplitl [He0 He]
  · isplitl [He0] <;> iassumption
  isplitl [Hr8] <;> iassumption

/-! ## Chunks received from across x -/

theorem wp_othNorm (k : Fin 8) (b : Body (F := F)) (Q : PUnit → sProp 𝕄) :
    iprop(pPts m ρ c ∗ gPts m ρ c ∗ xPts c k (gotX m ρ c) ∗ (∃ f, oPiece c (oOth k) f))
      ⊢ iprop(((pPts m ρ c ∗ gPts m ρ c ∗ xPts c k (gotX m ρ c) ∗ oPiece c (oOth k) (outOf m ρ c (oOth k))) -∗ wpB c b Q) -∗ wpB c (othNorm c k b) Q) :=
  wp_normStep m ρ c (xz k) (othO c k) (othO_inb c k) (chunkX k) xM ![64 * k.val, 0] (inX k) (othP c k) (othP_inb c k)
    (gotX m ρ c) Finset.Subset.rfl b Q

abbrev noDues : ∀ (k : Kd), ∀ j ∈ ([] : List Kd), lvl k < lvl j := fun _ _ h => absurd h List.not_mem_nil

theorem wp_recvNorm (k : Fin 8) (b : Body (F := F)) (Q : PUnit → sProp 𝕄) :
    iprop((ready c (xr k) ∗ ∃ f, oPiece c (oOth k) f) ∗ ctx m ρ K ∗ (pPts m ρ c ∗ gPts m ρ c) ∗ owing c [])
      ⊢ iprop((((zero c (xr k) ∗ xPts c k (gotX m ρ c) ∗ oPiece c (oOth k) (outOf m ρ c (oOth k))) ∗ ctx m ρ K ∗ (pPts m ρ c ∗ gPts m ρ c) ∗ owing c []) -∗ wpB c b Q)
          -∗ wpB c (xRecv k (othNorm c k b)) Q) := by
  have hw := @wp_wait F _ m ρ K c (xr k) [] (noDues _) (.waitDma2 (sem8 cc0_scratch6 k) (rX k) (xX k) ((Memref.isWhole_whole _).wordExact_slice rfl _ (wordsXY k))
    ((Memref.isWhole_whole _).wordExact_slice rfl _ (wordsX k))) (fun R => wpE_waitDma2_eq 𝒱₀ (c : Thread nD τ) none Set.univ R) (fun _ => othNorm c k b) Q
  unfold xRecv
  iintro ⟨⟨Hr, Hq⟩, #Hctx, ⟨Hp, Hg⟩, Ho⟩ Hk
  iapply hw $$ [Hr Ho]
  · isplitl [Hr]; · iexact Hr
    isplitr; · iexact Hctx
    iexact Ho
  iintro ⟨⟨Hx, Hz⟩, Ho⟩
  ihave Hx := (Entails.of_eq (pay_xr m ρ c k)) $$ Hx
  iapply (wp_othNorm m ρ c k b Q) $$ [Hp Hg Hx Hq]
  · isplitl [Hp]; · iexact Hp
    isplitl [Hg]; · iexact Hg
    isplitl [Hx] <;> iassumption
  iintro ⟨Hp, Hg, Hx, Hq⟩
  iapply Hk
  isplitl [Hz Hx Hq]
  · isplitl [Hz]; · iexact Hz
    isplitl [Hx] <;> iassumption
  isplitr; · iexact Hctx
  isplitl [Hp Hg]
  · isplitl [Hp] <;> iassumption
  iexact Ho

theorem wp_phaseX (Q : PUnit → sProp 𝕄) :
    iprop((sepL (fun k => ready c (xr k)) all8 ∗ sepL (fun k => iprop(∃ f, oPiece c (oOth k) f)) all8)
        ∗ ctx m ρ K ∗ (pPts m ρ c ∗ gPts m ρ c) ∗ owing c [])
      ⊢ iprop((((sepL (fun k => zero c (xr k)) all8 ∗ sepL (fun k => xPts c k (gotX m ρ c)) all8 ∗ sepL (fun k => oPiece c (oOth k) (outOf m ρ c (oOth k))) all8)
            ∗ ctx m ρ K ∗ (pPts m ρ c ∗ gPts m ρ c) ∗ owing c []) -∗ wpB c phaseSent Q)
          -∗ wpB c (phaseX c) Q) := by
  have hloop := wp_loop c (fun (k : Fin 8) b => xRecv k (othNorm c k b)) (fun k => iprop(ready c (xr k) ∗ ∃ f, oPiece c (oOth k) f))
    (fun k => iprop(zero c (xr k) ∗ xPts c k (gotX m ρ c) ∗ oPiece c (oOth k) (outOf m ρ c (oOth k))))
    (fun l => iprop(ctx m ρ K ∗ (pPts m ρ c ∗ gPts m ρ c) ∗ owing c []))
    (fun k l b Q => wp_recvNorm m ρ K c k b Q) phaseSent Q all8
  have e1 := sepL_sep (fun k => ready (F := F) c (xr k)) (fun k => iprop(∃ f, oPiece (F := F) c (oOth k) f)) all8
  have e2 := sepL_sep (fun k => zero (F := F) c (xr k)) (fun k => iprop(xPts c k (gotX m ρ c) ∗ oPiece c (oOth k) (outOf m ρ c (oOth k)))) all8
  have e3 := sepL_sep (fun k => xPts c k (gotX m ρ c)) (fun k => oPiece c (oOth k) (outOf m ρ c (oOth k))) all8
  rw [← e3, ← e1, ← e2]
  exact hloop

/-! ## What was sent has left -/

theorem wp_leave {I : Type} (step : I → Body (F := F) → Body (F := F)) (kd : I → Kd)
    (h : ∀ k b Q, iprop(ready c (kd k) ∗ ctx m ρ K ∗ owing c []) ⊢ iprop(((done m ρ c (kd k) ∗ owing c []) -∗ wpB c b Q) -∗ wpB c (step k b) Q))
    (l : List I) (b : Body (F := F)) (Q : PUnit → sProp 𝕄) :
    iprop(sepL (fun k => ready c (kd k)) l ∗ ctx m ρ K ∗ owing c [])
      ⊢ iprop(((sepL (fun k => done m ρ c (kd k)) l ∗ ctx m ρ K ∗ owing c []) -∗ wpB c b Q) -∗ wpB c (l.foldr step b) Q) :=
  wp_loop c step (fun k => ready c (kd k)) (fun k => done m ρ c (kd k)) (fun _ => iprop(ctx m ρ K ∗ owing c [])) (fun k l b Q => by
    have hk := h k b Q
    iintro ⟨Hr, #Hctx, Ho⟩ Hk
    iapply hk $$ [Hr Ho]
    · isplitl [Hr]; · iexact Hr
      isplitr; · iexact Hctx
      iexact Ho
    iintro ⟨Hd, Ho⟩
    iapply Hk
    isplitl [Hd]; · iexact Hd
    isplitr; · iexact Hctx
    iexact Ho) b Q l

theorem wp_phaseSent (Q : PUnit → sProp 𝕄) :
    iprop((sepL (fun k => ready c (ys k)) all9 ∗ sepL (fun k => ready c (xs k)) all8) ∗ ctx m ρ K ∗ owing c [])
      ⊢ iprop(((sepL (fun k => done m ρ c (ys k)) all9 ∗ sepL (fun k => done m ρ c (xs k)) all8 ∗ owing c []) -∗ Q ⟨⟩) -∗ wpB c phaseSent Q) := by
  have h1 := wp_leave m ρ K c ySent ys (fun k b Q => @wp_wait F _ m ρ K c (ys k) [] (noDues _) _ (fun R => wpE_waitDma2_eq 𝒱₀ (c : Thread nD τ) none Set.univ R) (fun _ => b) Q)
    all9 (all8.foldr xSent (.ret ⟨⟩)) Q
  have h2 := wp_leave m ρ K c xSent xs (fun k b Q => @wp_wait F _ m ρ K c (xs k) [] (noDues _) _ (fun R => wpE_waitDma2_eq 𝒱₀ (c : Thread nD τ) none Set.univ R) (fun _ => b) Q)
    all8 (.ret ⟨⟩) Q
  unfold phaseSent
  iintro ⟨⟨Hy, Hx⟩, #Hctx, Ho⟩ Hk
  iapply h1 $$ [Hy Ho]
  · isplitl [Hy]; · iexact Hy
    isplitr; · iexact Hctx
    iexact Ho
  iintro ⟨Hy, -, Ho⟩
  iapply h2 $$ [Hx Ho]
  · isplitl [Hx]; · iexact Hx
    isplitr; · iexact Hctx
    iexact Ho
  iintro ⟨Hx, -, Ho⟩
  unfold wpB
  rw [wp_ret]
  imodintro
  iapply Hk
  isplitl [Hy]; · iexact Hy
  isplitl [Hx] <;> iassumption

end Cert.Exchange

end
-- ==== Proof.Body.lean ====
/-
# The body

Everything a device holds when its kernel starts, through the two signals and the four phases, to what it holds when
the kernel ends: the result buffer with every chunk normalised, and every semaphore at zero.
-/
module

public import proofs.«01_k».proof.Proof.Phases

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-! ## Lists by kind -/

theorem all9_eq : all9 = all8.map Fin.castSucc ++ [8] := rfl

theorem sepL_last (Φ : Fin 9 → sProp 𝕄) : sepL Φ all9 = iprop(sepL (fun k : Fin 8 => Φ k.castSucc) all8 ∗ Φ 8) := by
  rw [all9_eq, sepL_append, sepL_map, sepL_one]

theorem sepL_kinds (Φ : Kd → sProp 𝕄) : sepL Φ kinds
    = iprop(Φ kb ∗ Φ kr ∗ sepL (fun k => Φ (ys k)) all9 ∗ sepL (fun k => Φ (yr k)) all9 ∗ sepL (fun k => Φ (xs k)) all8 ∗ sepL (fun k => Φ (xr k)) all8) := by
  unfold kinds
  rw [sepL_append, sepL_append, sepL_append, sepL_append, sepL_append, sepL_one, sepL_one, sepL_map, sepL_map, sepL_map, sepL_map]

theorem sepL_dues (Φ : Kd → sProp 𝕄) : sepL Φ dues
    = iprop(Φ kb ∗ Φ kr ∗ sepL (fun k => Φ (yr k)) all9 ∗ sepL (fun k => Φ (xr k)) all8) := by
  unfold dues
  rw [sepL_append, sepL_append, sepL_append, sepL_one, sepL_one, sepL_map, sepL_map]

theorem sepL_out (Φ : OP → sProp 𝕄) : sepL Φ allO
    = iprop(sepL (fun k => Φ (.inl k)) all8 ∗ sepL (fun k => Φ (oOth k)) all8 ∗ Φ oTail) := by
  unfold allO
  rw [sepL_append, sepL_append, sepL_one, sepL_map, sepL_map]

/-! ## A buffer, whatever it holds -/

abbrev some0 : sProp 𝕄 := iprop(∃ f, ((c : Thread nD τ).loc cc0_scratch0) ↦{fullShare} f)
abbrev some1 : sProp 𝕄 := iprop(∃ f, ((c : Thread nD τ).loc cc0_scratch1) ↦{fullShare} f)
abbrev some2 : sProp 𝕄 := iprop(∃ f, ((c : Thread nD τ).loc cc0_scratch2) ↦{fullShare} f)
abbrev someO : sProp 𝕄 := iprop(∃ f, ((c : Thread nD τ).loc cc0_stg2_0) ↦{fullShare} f)

/-- The chunks received across y, put together again. -/
theorem rPts_back : iprop((sepL (fun k => rxPts c k (gotY m ρ c)) all8 ∗ sepL (fun k => rIdle c k (gotY m ρ c)) all8 ∗ sepL (fun k => rKept c k (gotY m ρ c)) all8)
      ∗ rPts c 8 (gotY m ρ c)) ⊢ some1 c := by
  have h : ∀ k : Fin 8, iprop(rxPts c k (gotY m ρ c) ∗ rIdle c k (gotY m ρ c) ∗ rKept c k (gotY m ρ c)) ⊢ (iprop(∃ f, rPts c k.castSucc f) : sProp 𝕄) := fun k => by
    iintro ⟨H1, H2, H3⟩
    iexists (gotY m ρ c)
    iapply (rPts_share c k (gotY m ρ c)).2
    isplitr [H3]
    · isplitl [H1] <;> iassumption
    iexact H3
  refine BIBase.Entails.trans ?_ (rPts_glue c)
  rw [sepL_last, ← sepL_sep, ← sepL_sep]
  iintro ⟨H, H8⟩
  isplitl [H]
  · iapply (sepL_mono all8 h); iexact H
  iexists _; iexact H8

/-- The chunks received across x, put together again. -/
theorem xPts_back : iprop(xRest c ∗ sepL (fun k => xPts c k (gotX m ρ c)) all8) ⊢ some2 c := by
  have h : ∀ k : Fin 8, xPts c k (gotX m ρ c) ⊢ (iprop(∃ f, xPts c k f) : sProp 𝕄) := fun k => by iintro H; iexists _; iexact H
  iintro ⟨Hr, H⟩
  iapply (xPts_glue c)
  isplitl [Hr]; · iexact Hr
  iapply (sepL_mono all8 h); iexact H

/-- What a device's kernel starts with, besides what it may use throughout; what it ends with. -/
def bodyIn : sProp 𝕄 :=
  iprop(owing c dues ∗ (pPts m ρ c ∗ gPts m ρ c ∗ someO c) ∗ (some0 c ∗ some1 c ∗ some2 c)
    ∗ sepL (posn c) kinds ∗ sepL (tok c) kinds ∗ sepL (crd c) dues)
def bodyOut : sProp 𝕄 :=
  iprop(owing c [] ∗ (pPts m ρ c ∗ gPts m ρ c ∗ (((c : Thread nD τ).loc cc0_stg2_0) ↦{fullShare} outAt m ρ c)) ∗ (some0 c ∗ some1 c ∗ some2 c)
    ∗ sepL (zero c) kinds)

theorem wp_looped (Q : PUnit → sProp 𝕄) :
    iprop(ctx m ρ K ∗ bodyIn m ρ c) ⊢ iprop((bodyOut m ρ c -∗ Q ⟨⟩) -∗ wpB c looped Q) := by
  have hb := @wp_signalCell F _ m ρ K c barS kb rfl rfl (kr :: (all9.map yr ++ all8.map xr))
  have hr := @wp_signalCell F _ m ρ K c rdyS kr rfl rfl (all9.map yr ++ all8.map xr)
  unfold bodyIn bodyOut looped
  rw [sepL_kinds, sepL_kinds, sepL_kinds, sepL_dues]
  iintro ⟨#Hctx, Ho, ⟨Hp, Hg, Hout⟩, ⟨H0, H1, H2⟩, ⟨Pb, Pr, Pys, Pyr, Pxs, Pxr⟩, ⟨Tb, Tr, Tys, Tyr, Txs, Txr⟩, ⟨Cb, Cr, Cyr, Cxr⟩⟩ Hk
  ihave H0 := (sPts_cut c) $$ H0
  ihave H1 := (rPts_cut c) $$ H1
  ihave H2 := (xPts_cut c) $$ H2
  icases H2 with ⟨Hrest, H2⟩
  ihave Hout := (oPts_cut c) $$ Hout
  ihave Hout := (Entails.of_eq (sepL_out _)) $$ Hout
  icases Hout with ⟨Hqd, Hqo, Hqt⟩
  unfold wpB
  rw [wp_deviceId]
  iapply (hb _ Q) $$ [Ho Tb H1]
  · isplitr; · iexact Hctx
    isplitl [Ho]; · iexact Ho
    isplitl [Tb]; · iexact Tb
    rw [pay_kb, yp_yp]; iexact H1
  iintro Ho
  iapply (hr _ Q) $$ [Ho Tr H2]
  · isplitr; · iexact Hctx
    isplitl [Ho]; · iexact Ho
    isplitl [Tr]; · iexact Tr
    rw [pay_kr, xp_xp]; iexact H2
  iintro Ho
  iapply (wp_phaseY m ρ K c Q) $$ [Hp Ho Pb Cb H0 Tys Tyr]
  · isplitr; · iexact Hctx
    isplitl [Hp]; · iexact Hp
    isplitl [Ho]; · iexact Ho
    isplitl [Pb Cb]
    · isplitl [Pb] <;> iassumption
    isplitl [H0]; · iexact H0
    isplitl [Tys] <;> iassumption
  iintro ⟨Hp, Ho, Zb, Cys⟩
  ihave Rys := (Entails.of_eq (sepL_sep (fun k => posn (F := F) c (ys k)) (fun k => crd c (ys k)) all9).symm) $$ [Pys Cys]
  · isplitl [Pys] <;> iassumption
  ihave Ryr := (Entails.of_eq ((sepL_sep (fun k => posn (F := F) c (yr k)) (fun k => crd c (yr k)) all9).symm.trans (sepL_last _))) $$ [Pyr Cyr]
  · isplitl [Pyr] <;> iassumption
  ihave Rxr := (Entails.of_eq (sepL_sep (fun k => posn (F := F) c (xr k)) (fun k => crd c (xr k)) all8).symm) $$ [Pxr Cxr]
  · isplitl [Pxr] <;> iassumption
  iapply (wp_phaseD m ρ K c Q) $$ [Hp Hg Ho Pr Cr Ryr Txs Txr Hqd Hqt]
  · isplitr; · iexact Hctx
    isplitl [Hp Hg]
    · isplitl [Hp] <;> iassumption
    isplitl [Ho]; · iexact Ho
    isplitl [Pr Cr]
    · isplitl [Pr] <;> iassumption
    isplitl [Ryr]; · iexact Ryr
    isplitl [Txs]; · iexact Txs
    isplitl [Txr]; · iexact Txr
    isplitl [Hqd] <;> iassumption
  iintro ⟨Hpg, Ho, Zr, Zyr, Hd, H18, Hqt⟩
  ihave Hd := (Entails.of_eq ((sepL_sep (fun k => crd (F := F) c (xs k)) _ all8).trans (congrArg _ ((sepL_sep (fun k => rIdle c k (gotY m ρ c)) _ all8).trans
    (congrArg _ (sepL_sep (fun k => rKept c k (gotY m ρ c)) (fun k => oPiece c (.inl k) (outOf m ρ c (.inl k))) all8)))))) $$ Hd
  icases Hd with ⟨Cxs, Hri, Hrk, Hqd⟩
  ihave Rxs := (Entails.of_eq (sepL_sep (fun k => posn (F := F) c (xs k)) (fun k => crd c (xs k)) all8).symm) $$ [Pxs Cxs]
  · isplitl [Pxs] <;> iassumption
  iapply (wp_phaseX m ρ K c Q) $$ [Rxr Hqo Hpg Ho]
  · isplitl [Rxr Hqo]
    · isplitl [Rxr] <;> iassumption
    isplitr; · iexact Hctx
    isplitl [Hpg] <;> iassumption
  iintro ⟨⟨Zxr, H2, Hqo⟩, -, ⟨Hp, Hg⟩, Ho⟩
  iapply (wp_phaseSent m ρ K c Q) $$ [Rys Rxs Ho]
  · isplitl [Rys Rxs]
    · isplitl [Rys] <;> iassumption
    isplitr; · iexact Hctx
    iexact Ho
  iintro ⟨Dys, Dxs, Ho⟩
  ihave Dys := (Entails.of_eq (sepL_sep (fun k => pay m ρ c (ys k)) (fun k => zero c (ys k)) all9)) $$ Dys
  ihave Dxs := (Entails.of_eq (sepL_sep (fun k => pay m ρ c (xs k)) (fun k => zero c (xs k)) all8)) $$ Dxs
  icases Dys with ⟨H0, Zys⟩
  icases Dxs with ⟨Hrx, Zxs⟩
  iapply Hk
  isplitl [Ho]; · iexact Ho
  isplitl [Hp Hg Hqd Hqo Hqt]
  · isplitl [Hp]; · iexact Hp
    isplitl [Hg]; · iexact Hg
    iapply (Entails.of_eq ((sepL_out _).symm.trans (oPts_glue m ρ c)))
    isplitl [Hqd]; · iexact Hqd
    isplitl [Hqo] <;> iassumption
  isplitl [H0 Hrx Hri Hrk H18 Hrest H2]
  · isplitl [H0]
    · iapply (sPts_glue c); iexact H0
    isplitl [Hrx Hri Hrk H18]
    · iapply (rPts_back m ρ c)
      isplitr [H18]
      · isplitl [Hrx]; · iexact Hrx
        isplitl [Hri] <;> iassumption
      iexact H18
    iapply (xPts_back m ρ c)
    isplitl [Hrest] <;> iassumption
  isplitl [Zb]; · iexact Zb
  isplitl [Zr]; · iexact Zr
  isplitl [Zys]; · iexact Zys
  isplitl [Zyr]; · rw [sepL_last]; iexact Zyr
  isplitl [Zxs] <;> iassumption

end Cert.Exchange

end
-- ==== Proof.Launch.lean ====
/-
# The launch

From any memory with zero counters: every device's cells are allocated, the rights to credit them dealt to the devices
that do, each device's kernel is run, and the program's final memory is read off.
-/
module

public import Idealize.ShloMosaic.Lib.Pipeline.CollectiveSegs
public import proofs.«01_k».proof.Proof.Body

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s kernel starts from, besides its buffers. -/
def start (c : Dev nD) : sProp 𝕄 :=
  iprop((∃ K, ctx m ρ K) ∗ sepL (posn c) kinds ∗ sepL (tok c) kinds ∗ sepL (crd c) dues)

def Φ₀ (c : Dev nD) : sProp 𝕄 := iprop(start m ρ c ∗ some0 c ∗ some1 c ∗ some2 c)
def Φ₁ (c : Dev nD) : sProp 𝕄 := iprop((some0 c ∗ some1 c ∗ some2 c) ∗ sepL (zero (F := F) c) kinds)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m ρ c
    | ⟨1, _⟩ => gstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owe c dues
    | ⟨_ + 1, _⟩ => owe c []

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [show t = t0_0 from fin_N0 t]; rfl
theorem fetch_1 (t : Fin cfg0.N) : (cfg0.win (1 : Fin 3)).fetch t = true := by rw [show t = t0_0 from fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obIn (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def obOut (c : Dev nD) : sProp 𝕄 :=
  iprop(Φ₁ c ∗ (dats m ρ 0 c).owesAt () t0_0.succ ∗ stg c cc0_stg0_0 (pstg m ρ c) ∗ stg c cc0_stg1_0 (gstg m ρ c) ∗ stg c cc0_stg2_0 (outAt m ρ c))

theorem body_looped (c : Dev nD) : obIn m ρ c ⊢ wpB c looped (fun _ => obOut m ρ c) := by
  unfold obIn Φ₀ start Dat.owesAt Pipeline.owesWithin
  rw [show (dats m ρ 0 c).owed t0_0.castSucc = owe c dues from rfl]
  iintro ⟨⟨⟨⟨%K, #Hctx⟩, Hpos, Htok, Hcrd⟩, H0, H1, H2⟩, ⟨%W, -, Ho⟩, ⟨%d0, %g0, %h0, Hp⟩, ⟨%d1, %g1, %h1, Hg⟩, ⟨%d2, %g2, %h2, Hout⟩⟩
  have e0 : g0 = pstg m ρ c := by rw [h0]; unfold Dat.before; rw [if_pos (fetch_0 t0_0)]; rfl
  have e1 : g1 = gstg m ρ c := by rw [h1]; unfold Dat.before; rw [if_pos (fetch_1 t0_0)]; rfl
  subst e0 e1
  iapply (wp_looped m ρ K c (fun _ => obOut m ρ c)) $$ [Hpos Htok Hcrd H0 H1 H2 Ho Hp Hg Hout]
  · isplitr; · iexact Hctx
    unfold bodyIn owing
    isplitl [Ho]
    · iexists W; iexact Ho
    isplitl [Hp Hg Hout]
    · isplitl [Hp]; · iexact Hp
      isplitl [Hg]; · iexact Hg
      iexists _; iexact Hout
    isplitl [H0 H1 H2]
    · isplitl [H0]; · iexact H0
      isplitl [H1] <;> iassumption
    isplitl [Hpos]; · iexact Hpos
    isplitl [Htok] <;> iassumption
  unfold bodyOut owing obOut Φ₁ Dat.owesAt Pipeline.owesWithin
  rw [show (dats m ρ 0 c).owed t0_0.succ = owe c [] from rfl]
  iintro ⟨⟨%W', Ho⟩, ⟨Hp, Hg, Hout⟩, Hs, Hz⟩
  isplitl [Hs Hz]
  · isplitl [Hs] <;> iassumption
  isplitl [Ho]
  · iexists W'
    isplitr; · ipureintro; exact fun _ _ => Or.inl trivial
    iexact Ho
  isplitl [Hp]
  · iexists _; isplitr; · (ipureintro; rfl)
    iexact Hp
  isplitl [Hg]
  · iexists _; isplitr; · (ipureintro; rfl)
    iexact Hg
  iexists _; isplitr; · (ipureintro; rfl)
  iexact Hout

set_option maxRecDepth 40000 in
/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show obIn m ρ c ⊢ wpB c (cc0_body (F := F) pM (Memref.isWhole_whole _) gM (Memref.isWhole_whole _) oM (Memref.isWhole_whole _)
    sM (Memref.isWhole_whole _) rM (Memref.isWhole_whole _) xM (Memref.isWhole_whole _)
    cc0_scratch3 cc0_scratch4 cc0_scratch5 cc0_scratch6 cc0_scratch7) (fun _ => obOut m ρ c)
  rw [body_eq]
  exact body_looped m ρ c

/-! ## Cells and tokens at launch -/

theorem share_eq (c : Dev nD) (w : Fin cfg0.W) : (dats m ρ 0 c).share w = fullShare := by unfold Dat.share; split <;> rfl

abbrev kcell (ck : Dev nD × Kd) : GSem nD τ sig := cell ck.1 ck.2
theorem kcell_injective : Function.Injective kcell := fun a b h => Prod.ext (cell_inj h).1 (cell_inj h).2
def kCells : Finset (GSem nD τ sig) := Finset.univ.map ⟨kcell, kcell_injective⟩

abbrev ktok (ck : Dev nD × Kd) : GSem nD τ sig × ℕ × Unit := (kcell ck, 0, ())
theorem ktok_injective : Function.Injective ktok := fun a b h => kcell_injective (congrArg Prod.fst h)
def kToks : Finset (GSem nD τ sig × ℕ × Unit) := Finset.univ.map ⟨ktok, ktok_injective⟩

/-- A cell and the one its device credits in turn. -/
def deal : Dev nD × Kd ≃ Dev nD × Kd where
  toFun ck := (pal ck.2 ck.1, ck.2)
  invFun ck := (pal ck.2 ck.1, ck.2)
  left_inv ck := Prod.ext (pal_pal ck.2 ck.1) rfl
  right_inv ck := Prod.ext (pal_pal ck.2 ck.1) rfl

def u₀ : UU :=
  (initOf (Pipeline.cells cfgs cellOf_inj) (Pipeline.launchToks cfgs cellOf_inj), initOf kCells kToks)

abbrev states (c : Dev nD) : sProp 𝕄 := bigSep Finset.univ fun k : Kd => roundState ER (sched m ρ) (cell c k) 0
abbrev places (c : Dev nD) : sProp 𝕄 := bigSep Finset.univ fun k : Kd => (iprop(posn c k ∗ reached ER (cell c k) 0) : sProp 𝕄)
abbrev dealt (c : Dev nD) : sProp 𝕄 := bigSep Finset.univ fun k : Kd => (tok c k : sProp 𝕄)

/-- What the launch deals device `c`; what the global step makes of it. -/
def G (c : Dev nD) : sProp 𝕄 := iprop(states m ρ c ∗ places c ∗ dealt c)

def recs (K : Dev nD × Kd → ℕ) : sProp 𝕄 :=
  iprop((bigSep Finset.univ fun ck : Dev nD × Kd => cellInv ER (sched m ρ) (K ck) (cell ck.1 ck.2))
    ∗ bigSep Finset.univ fun ck : Dev nD × Kd => reached ER (cell ck.1 ck.2) 0)
instance recs_persistent (K : Dev nD × Kd → ℕ) : BI.Persistent (recs m ρ K) := by unfold recs; infer_instance

def G' (c : Dev nD) : sProp 𝕄 := iprop((∃ K, recs m ρ K) ∗ sepL (posn c) kinds ∗ sepL (tok c) kinds)

theorem bigSep_kinds (Φ : Kd → sProp 𝕄) : bigSep Finset.univ Φ = sepL Φ kinds := bigSep_list Φ kinds kinds_nodup mem_kinds

theorem fund_cells : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun k : Kd => Φ (cell c k) := by
    unfold kCells; rw [bigSep_map, bigSep_univ_prod]; rfl
  have hT : bigSep kToks (fun x => (dutyTok ER x.1 x.2.1 x.2.2 : sProp 𝕄)) = bigSep Finset.univ fun c : Dev nD => dealt c := by
    unfold kToks; rw [bigSep_map, bigSep_univ_equiv deal, bigSep_univ_prod]; rfl
  iintro HX
  imod (Rounds.fund ER (sched m ρ) kCells kToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownZero (c : Dev nD) : sProp 𝕄 := Pipeline.ownSems0 (Ix := Unit) (Name := ℕ) (U := UU) (Lvl := ℕ) (Val := Elt F) (τ := τ) osem c

/-- The mesh's barrier semaphore is the launch's one unscoped semaphore; -/
theorem unscopedSems0_eq (c : Dev nD) : (unscopedSems0 c : sProp 𝕄) = zero c kb := by
  unfold unscopedSems0; rw [bigSep_eq_bigSepL_of_eq [SemLoc.reg barS] (by decide +kernel) (by decide +kernel)]; rfl
/-- the kernel's own ones are all the others. -/
theorem sems0_eq (c : Dev nD) : iprop(ownZero c ∗ unscopedSems0 c) = (sepL (zero c) kinds : sProp 𝕄) := by
  rw [unscopedSems0_eq, ← bigSep_kinds, bigSep_univ_sum]
  unfold ownZero Pipeline.ownSems0
  rw [bigSep_list (fun u : Unit => (zero c (.inl u) : sProp 𝕄)) [()] (by decide) (fun _ => List.mem_singleton.mpr rfl), sepL_one]
  exact BI.Entails.antisymm (Laws.sep_comm (PROP := sProp 𝕄)).1 (Laws.sep_comm (PROP := sProp 𝕄)).1

theorem core_alloc (c : Dev nD) :
    iprop(ownZero c ∗ unscopedSems0 c ∗ G m ρ c)
      ⊢ |={Set.univ}=> iprop((bigSep Finset.univ fun k => iprop(∃ κ : ℕ, cellInv ER (sched m ρ) κ (cell c k))) ∗ places c ∗ dealt c) := by
  unfold G
  iintro ⟨Hos, Hus, Hst, Hat, Htok⟩
  ihave Hv := (Entails.of_eq ((sems0_eq (F := F) c).trans (bigSep_kinds _).symm)) $$ [Hos Hus]
  · isplitl [Hos] <;> iassumption
  imod (show iprop((bigSep Finset.univ fun k : Kd => zero c k) ∗ states m ρ c)
      ⊢ (|={Set.univ}=> bigSep Finset.univ fun k => iprop(∃ κ : ℕ, cellInv ER (sched m ρ) κ (cell c k)) : sProp 𝕄) from by
        rw [← bigSep_sep']
        exact (bigSep_mono fun k _ => (Rounds.body_intro ER (sched m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem mine_intro (K : Dev nD × Kd → ℕ) (c : Dev nD) :
    iprop(recs m ρ K ∗ (bigSep Finset.univ fun k : Kd => posn c k) ∗ dealt c) ⊢ G' m ρ c := by
  unfold G'
  rw [← bigSep_kinds, ← bigSep_kinds]
  iintro ⟨#HR, Hp, Ht⟩
  isplitr
  · iexists K; iexact HR
  isplitl [Hp] <;> iassumption

theorem regroup :
    (bigSep Finset.univ fun c : Dev nD => iprop((bigSep Finset.univ fun k => iprop(∃ κ : ℕ, cellInv ER (sched m ρ) κ (cell c k))) ∗ places c ∗ dealt c) : sProp 𝕄)
      ⊢ bigSep Finset.univ (G' m ρ) := by
  rw [bigSep_sep', bigSep_sep', ← bigSep_univ_prod (fun ck : Dev nD × Kd => iprop(∃ κ : ℕ, cellInv ER (sched m ρ) κ (cell ck.1 ck.2))),
    bigSep_congr (s := Finset.univ) (fun (c : Dev nD) _ => bigSep_sep' Finset.univ (fun k : Kd => (posn c k : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (sched m ρ) κ (cell ck.1 ck.2) : sProp 𝕄))) $$ HI
  icases HK with ⟨%K, #HI⟩
  iapply (bigSep_beside (R := recs m ρ K) fun c _ => mine_intro m ρ K c)
  isplitr
  · unfold recs; isplitl; · iexact HI
    iexact HR
  · iapply (Entails.of_eq (bigSep_sep' Finset.univ (fun c : Dev nD => bigSep Finset.univ fun k : Kd => (posn c k : sProp 𝕄)) dealt).symm)
    isplitl [Hat]; · iexact Hat
    iexact Htok

/-- The global step: own and unscoped semaphores of every device at once. -/
theorem glob : (bigSep Finset.univ fun c => iprop(ownZero c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

abbrev O₀ (c : Dev nD) : CellTallies nD τ sig Unit := owe c dues

/-- Where a semaphore is not among those owed, nothing is owed to its cells; -/
theorem owe_cell_out (c d : Dev nD) (k : Kd) : ∀ l : List Kd, k ∉ l → owe d l (cell c k) () = 0
  | [], _ => rfl
  | j :: l, hk => by
    rw [List.mem_cons, not_or] at hk
    have ih := owe_cell_out c d k l hk.2
    rw [owe_apply] at ih ⊢
    rw [List.map_cons, List.sum_cons, ih, if_neg (fun h => hk.1 (cell_inj h).2)]

/-- where it is, a cell is owed its amount by the device that credits it. -/
theorem owe_cell (c d : Dev nD) (k : Kd) : ∀ l : List Kd, l.Nodup → k ∈ l → owe d l (cell c k) () = if d = pal k c then amt k else 0
  | [], _, h => absurd h List.not_mem_nil
  | j :: l, hn, hk => by
    rw [List.nodup_cons] at hn
    by_cases hj : k = j
    · subst hj
      have h0 := owe_cell_out c d k l hn.1
      rw [owe_apply] at h0 ⊢
      rw [List.map_cons, List.sum_cons, h0, Nat.add_zero]
      by_cases hd : d = pal k c
      · subst hd; rw [pal_pal, if_pos rfl, if_pos rfl]
      · rw [if_neg hd, if_neg]
        intro h; exact hd (by rw [(cell_inj h).1, pal_pal])
    · have ih := owe_cell c d k l hn.2 ((List.mem_cons.mp hk).resolve_left hj)
      rw [owe_apply] at ih ⊢
      rw [List.map_cons, List.sum_cons, ih, if_neg (fun h => hj (cell_inj h).2), Nat.zero_add]

theorem launch_cell (c : Dev nD) (k : Kd) (hk : k ∈ dues) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same]
  exact (Finset.sum_congr rfl fun d _ => owe_cell c d k dues dues_nodup hk).trans
    ((Finset.sum_ite_eq' Finset.univ (pal k c) fun _ => amt k).trans (if_pos (Finset.mem_univ _)))

theorem creds (c : Dev nD) : (Pipeline.launchCred O₀ c : sProp 𝕄) ⊢ sepL (crd c) dues := by
  unfold Pipeline.launchCred
  rw [← show bigSep (dues.toFinset.image csem) _ = (sepL (crd c) dues : sProp 𝕄) from
    (bigSep_image_of_injOn (csem_inj.injOn) fun sm : SemLoc sig =>
      (cred (tallyOn ((c.tc : Thread nD τ), sm) (launchCredit (Pipeline.owing O₀) 0 ((c.tc : Thread nD τ), sm))) : sProp 𝕄)).trans
      ((bigSep_toFinset _ _ dues_nodup).trans (sepL_congr dues fun k hk => congrArg cred (launch_cell c k hk)))]
  exact bigSep_subset (Finset.subset_univ _)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, #Hlev, Hcr, -, ⟨%K, #HR⟩, Hp, Ht⟩
  ihave Hc := (creds (F := F) c) $$ Hcr
  imodintro
  isplitl
  · isplitr
    · iexists K
      unfold recs ctx levs
      icases HR with ⟨#H1, #H2⟩
      isplitr; · iexact H1
      isplitr; · iexact H2
      iexact Hlev
    isplitl [Hp]; · iexact Hp
    isplitl [Ht] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ ownZero c ∗ Pipeline.scopedRest cfg0.spec c) := by
  rw [show (dats m ρ 0 c).Φ (Fin.last cfg0.N) = Φ₁ c from rfl, scopedRest0_eq]
  unfold Φ₁
  rw [← sems0_eq]
  iintro ⟨Hr, Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.spec w).sem s)) () = 0 := by
      unfold lv; rw [kindOf_none fun k => csem_stage k w s]; rfl
    have h1 := @mayWait_of F _ c (.dma ((cfg0.spec w).sem s)) 0 h0 dues (by decide)
    have h2 := @mayWait_of F _ c (.dma ((cfg0.spec w).sem s)) 0 h0 [] (fun _ h => absurd h List.not_mem_nil)
    unfold levs at h1 h2
    rcases t with ⟨_ | _, ht⟩
    · exact h1
    · exact h2

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair
    execution terminates, with every array at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Result.lean ====
/-
# What the kernel computes

Each row of a device's result is scaled from the sum of that row of its own array and the same row of the array of a
device at the other y coordinate: the neighbour across y for the rows received directly, that neighbour of the
neighbour across x for the rows passed on.
-/
module

public import proofs.«01_k».proof.Proof.Scale
public import proofs.«01_k».proof.Proof.Launch

@[expose] public section

noncomputable section

namespace Cert.Exchange

open Cert.KernelIdeal Cert.KernelIdeal.Gen

open Idealize.ShloMosaic
open Idealize.ShloMosaic.TcCoe
open Idealize.ShloMosaic.ValueIdx

variable (m : (ℓ : Loc nD τ sig) → Buf (Elt Ideal) ℓ) (ρ : Dev nD → PrngReg)

/-! ## Where the pieces lie -/

/-- The row of the device's own array that a piece starts at. -/
theorem dirP_eq : ∀ (c : Dev nD) (k : Fin 8), dirP c k = ![0, 1024 * dy c + orow c (.inl k), 0] := by decide +kernel
theorem othP_eq : ∀ (c : Dev nD) (k : Fin 8), othP c k = ![0, 1024 * dy c + orow c (.inr (.inl k)), 0] := by decide +kernel
theorem tailP_eq : ∀ c : Dev nD, k0_off6 c = ![0, 1024 * dy c + orow c (.inr (.inr ())), 0] := by decide +kernel

theorem dy_yp_xp : ∀ c : Dev nD, dy (yp (xp c)) = 1 - dy c := by decide +kernel

/-- A device's staged array at a row of it. -/
abbrev own (c : Dev nD) (r : Fin 2048) : Row := fun k => (pstg m ρ c : S1x2048x1024.Idx → EReal) (ix3 (0 : Fin 1) r k)

theorem pLoad_apply (c : Dev nD) {z : ℕ} {b : ℕ} {po : Fin 3 → ℕ} (e : po = ![0, b, 0]) (hp : ∀ a, po a + (sh3 z).size a ≤ S1x2048x1024.size a)
    (a : Fin z) (r : Fin 2048) (hr : r.val = b + a.val) (k : Fin 1024) :
    pLoad m ρ c z po hp (ix3 (0 : Fin 1) a k) = own m ρ c r k := by
  subst e
  refine congrArg (pstg m ρ c : S1x2048x1024.Idx → EReal) (funext fun i => Fin.ext ?_)
  fin_cases i
  · rfl
  · show b + 1 * a.val = r.val
    omega
  · show 0 + 1 * k.val = k.val
    omega

theorem gLoad_apply (c : Dev nD) (k : Fin 1024) : gLoad m ρ c (ix1 k) = (gstg m ρ c : S1024.Idx → EReal) (ix1 k) := by
  refine congrArg (gstg m ρ c : S1024.Idx → EReal) (funext fun i => Fin.ext ?_)
  fin_cases i
  show 0 + 1 * k.val = k.val
  omega

theorem rRead (c : Dev nD) {z o : ℕ} (hb : ∀ a, (![o, 0] : Fin 2 → ℕ) a + (sh2 z).size a ≤ (sh2 544).size a)
    (a : Fin z) (r : Fin 2048) (hr : r.val = srcRow (yp c) (o + a.val)) (k : Fin 1024) :
    (rM.access (Rect.unit (s := sh2 544) ![o, 0] (sh2 z).size hb)).read (Elt Ideal) (gotY m ρ c) (ix2 a k) = own m ρ (yp c) r k := by
  refine congrArg (pstg m ρ (yp c) : S1x2048x1024.Idx → EReal) (funext fun i => Fin.ext ?_)
  fin_cases i
  · rfl
  · show srcRow (yp c) (o + 1 * a.val) = r.val
    rw [hr, Nat.one_mul]
  · show 0 + 1 * k.val = k.val
    omega

theorem xRead (c : Dev nD) {z o : ℕ} (hb : ∀ a, (![o, 0] : Fin 2 → ℕ) a + (sh2 z).size a ≤ (sh2 512).size a)
    (a : Fin z) (r : Fin 2048) (hr : r.val = srcRow (yp (xp c)) (o + a.val)) (k : Fin 1024) :
    (xM.access (Rect.unit (s := sh2 512) ![o, 0] (sh2 z).size hb)).read (Elt Ideal) (gotX m ρ c) (ix2 a k) = own m ρ (yp (xp c)) r k := by
  refine congrArg (pstg m ρ (yp (xp c)) : S1x2048x1024.Idx → EReal) (funext fun i => Fin.ext ?_)
  fin_cases i
  · rfl
  · show srcRow (yp (xp c)) (o + 1 * a.val) = r.val
    rw [hr, Nat.one_mul]
  · show 0 + 1 * k.val = k.val
    omega

/-! ## A row of the result -/

/-- The device whose rows reach a piece. -/
def from' (c : Dev nD) : OP → Dev nD
  | .inr (.inl _) => yp (xp c)
  | _ => yp c

theorem dy_from (c : Dev nD) (p : OP) : dy (from' c p) = 1 - dy c := by
  rcases p with k | k | u
  · exact dy_yp c
  · exact dy_yp_xp c
  · exact dy_yp c

theorem blk_apply (c : Dev nD) (p : OP) (a : Fin (oz p)) (r : Fin 2048) (hr : r.val = 1024 * dy c + orow c p + a.val) (j : Fin 1024) :
    blk m ρ c p (ix2 a j) = scaled (fun k => own m ρ c r k + own m ρ (from' c p) r k) (fun k => (gstg m ρ c : S1024.Idx → EReal) (ix1 k)) j := by
  have hx := dx_lt c
  have hy := dy_lt c
  have ha := a.isLt
  rcases p with k | k | u
  · have hk := k.isLt
    refine (norm_apply chunk64 _ _ _ a j).trans (congrArg₂ (fun y g => scaled y g j) (funext fun t => ?_) (funext fun t => gLoad_apply m ρ c t))
    refine congrArg₂ (· + ·) (pLoad_apply m ρ c (dirP_eq c k) _ a r hr t) (rRead m ρ c _ a r ?_ t)
    rw [hr]; unfold srcRow; rw [dx_yp, dy_yp]
    change a.val < 64 at ha
    simp only [orow]
    split <;> omega
  · have hk := k.isLt
    refine (norm_apply (chunkX k) _ _ _ a j).trans (congrArg₂ (fun y g => scaled y g j) (funext fun t => ?_) (funext fun t => gLoad_apply m ρ c t))
    refine congrArg₂ (· + ·) (pLoad_apply m ρ c (othP_eq c k) _ a r hr t) (xRead m ρ c _ a r ?_ t)
    rw [hr]; unfold srcRow; rw [dx_yp, dy_yp, dx_xp, dy_xp]
    change a.val < xz k at ha
    unfold xz at ha
    simp only [orow]
    split_ifs at ha ⊢ <;> omega
  · refine (norm_apply chunk32 _ _ _ a j).trans (congrArg₂ (fun y g => scaled y g j) (funext fun t => ?_) (funext fun t => gLoad_apply m ρ c t))
    refine congrArg₂ (· + ·) (pLoad_apply m ρ c (tailP_eq c) _ a r hr t) (rRead m ρ c _ a r ?_ t)
    rw [hr]; unfold srcRow; rw [dx_yp, dy_yp]
    change a.val < 32 at ha
    simp only [orow]
    split <;> omega

/-- A row of a device's result: the row of its half of the whole array. -/
theorem outAt_apply (c : Dev nD) (i : Fin 1024) (r : Fin 2048) (hr : r.val = 1024 * dy c + i.val) (j : Fin 1024) :
    ∃ d : Dev nD, dy d = 1 - dy c ∧ (outAt m ρ c : S1024x1024.Idx → EReal) (ix2 i j)
      = scaled (fun k => own m ρ c r k + own m ρ d r k) (fun k => (gstg m ρ c : S1024.Idx → EReal) (ix1 k)) j := by
  refine ⟨from' c (opart c (ix2 i j)), dy_from c _, ?_⟩
  obtain ⟨x, -, hx⟩ := Finset.mem_map.mp ((mem_oV c (opart c (ix2 i j)) (ix2 i j)).mpr rfl)
  unfold outAt
  generalize opart c (ix2 i j) = p at x hx ⊢
  unfold outOf outWith
  have e := View.write_emb_of_mem (v := oV (oz p) (ooff c p) (oinb c p)) (m ((c : Thread nD τ).loc cc0_stg2_0)) (blk m ρ c p) (Finset.mem_univ x)
  rw [hx] at e
  have h0 : ooff c p 0 + 1 * (x 0).val = i.val := congrArg (fun t : S1024x1024.Idx => (t 0).val) hx
  have h1 : ooff c p 1 + 1 * (x 1).val = j.val := congrArg (fun t : S1024x1024.Idx => (t 1).val) hx
  rw [ooff_eq] at h0 h1
  change orow c p + 1 * (x 0).val = i.val at h0
  change 0 + 1 * (x 1).val = j.val at h1
  refine (e.trans (cast_eq _ _)).trans ?_
  have ex : x = ix2 (x 0 : Fin (oz p)) j := by
    funext b; fin_cases b
    · rfl
    · exact Fin.ext (by show (x 1).val = j.val; omega)
  rw [ex]
  exact blk_apply m ρ c p (x 0) r (by omega) j

end Cert.Exchange

end
-- ==== Proof.Ends.lean ====
/-
# The arrays after the run

The arguments as they were; the result as the kernel left it. Each array is one block of its window, so the staged
arguments are the arguments.
-/
module

public import proofs.«01_k».proof.Proof.Launch

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem pstg_eq (c : Dev nD) : pstg m ρ c = m ((c : Thread nD τ).loc main_arg0) :=
  Memref.read_access_unit_zero (Elt F) main_arg0 (funext fun a => by fin_cases a <;> decide) (fun a => by fin_cases a <;> decide) _
theorem gstg_eq (c : Dev nD) : gstg m ρ c = m ((c : Thread nD τ).loc main_arg1) :=
  Memref.read_access_unit_zero (Elt F) main_arg1 (funext fun a => by fin_cases a <;> decide) (fun a => by fin_cases a <;> decide) _

theorem final_p (c : Dev nD) : finalA m ρ c (0 : Fin 3) = m ((c : Thread nD τ).loc main_arg0) :=
  (dats (F := F) m ρ 0 c).arrAt_in (0 : Fin 3) rfl _
theorem final_g (c : Dev nD) : finalA m ρ c (1 : Fin 3) = m ((c : Thread nD τ).loc main_arg1) :=
  (dats (F := F) m ρ 0 c).arrAt_in (1 : Fin 3) rfl _

theorem final_block (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem final_o (c : Dev nD) : finalA m ρ c (2 : Fin 3) = outAt m ρ c :=
  (Memref.read_access_unit_zero (Elt F) main_v1 (funext fun a => by fin_cases a <;> decide) (fun a => by fin_cases a <;> decide) _).symm.trans
    (final_block m ρ c)

/-- The run, read at @main's three arrays. -/
theorem run_ends : θ_run defs (onTc (τ := τ) (main (F := F))) (s₀ m ρ) fun r =>
    (∀ c : Dev nD, r.2.mem ((c : Thread nD τ).loc main_v1) = outAt m ρ c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c (2 : Fin 3)).trans (final_o m ρ c), (h.1 c (0 : Fin 3)).trans (final_p m ρ c),
    (h.1 c (1 : Fin 3)).trans (final_g m ρ c)⟩, h.2⟩) (run_main m ρ)

end Cert.Exchange

end
-- ==== Proof.Whole.lean ====
/-
# What the reference computes

Each row of its result is scaled from the sum of that row of the two arrays.
-/
module

public import Idealize.ShloMosaic.Lib.IdealHost
public import proofs.«01_k».proof.Proof.Gen.ReferenceIdeal.Run
public import proofs.«01_k».proof.Proof.Scale

@[expose] public section

noncomputable section

namespace Cert.Exchange

open Cert.ReferenceIdeal Cert.ReferenceIdeal.Gen

open Idealize.ShloMosaic
open Idealize.ShloMosaic.TcCoe
open Idealize.ShloMosaic.ValueIdx

variable (x : S2x2048x1024.Idx → EReal) (g : S1024.Idx → EReal)

/-- The sum of the two arrays. -/
def both : FVec Ideal S2048x1024 .f32 :=
  Host.reduceAdd (extf (F := Ideal) (φ := .bf16) .f32 x bitsLt_bf16_f32) (constant S_ .f32 0x00000000#32) reducesTo_S2x2048x1024_S2048x1024_d0 h_S_

/-- The reference's result. -/
def whole : FVec Ideal S2048x1024 .f32 :=
  mulf (Host.divf (both x) (broadcastInDim S2048x1024 ![0, 1] bcast_S2048x1_S2048x1024_0_1 (Host.sqrt (addf (Host.divf
      (broadcastInDim S2048x1 ![0] bcast_S2048_S2048x1_0 (Host.reduceAdd (mulf (both x) (both x)) (constant S_ .f32 0x00000000#32) reducesTo_S2048x1024_S2048_d1 h_S_))
      (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 (extf (F := Ideal) (φ := .bf16) .f32 g bitsLt_bf16_f32)))

/-- A row of the sum. -/
def sumRow (r : Fin 2048) : Row := fun k => x (ix3 (0 : Fin 2) r k) + x (ix3 (1 : Fin 2) r k)

theorem zero_const (i : S_.Idx) : (constant S_ .f32 0x00000000#32 : FVec Ideal S_ .f32) i = 0 := by
  rw [constant_apply]; simp [Ideal.ofBits, Ideal.ieee]

theorem layers : S2x2048x1024.Reduces [0] S2048x1024 := by decide
theorem columns : S2048x1024.Reduces [1] S2048 := by decide

theorem both_apply (r : Fin 2048) (k : Fin 1024) : both x (ix2 r k) = sumRow x r k := by
  unfold both
  rw [hostReduceAdd_apply, zero_const, Ideal.hostReduceAdd_single _ layers, zero_add]
  refine (Fin.sum_univ_two _).trans ?_
  exact congrArg₂ (fun s t : S2x2048x1024.Idx => x s + x t) (by funext b; fin_cases b <;> rfl) (by funext b; fin_cases b <;> rfl)

theorem squares_apply (r : Fin 2048) :
    Host.reduceAdd (mulf (both x) (both x)) (constant S_ .f32 0x00000000#32) reducesTo_S2048x1024_S2048_d1 h_S_ (ix1 r)
      = ∑ k, sumRow x r k * sumRow x r k := by
  rw [hostReduceAdd_apply, zero_const, Ideal.hostReduceAdd_single _ columns, zero_add]
  refine Finset.sum_congr rfl fun (k : Fin 1024) _ => ?_
  rw [show columns.lift (ix1 r) k = (ix2 r k : S2048x1024.Idx) from by funext b; fin_cases b <;> rfl, mulf_apply]
  exact congrArg (fun t => t * t) (both_apply x r k)

theorem whole_apply (r : Fin 2048) (j : Fin 1024) : whole x g (ix2 r j) = divided (sumRow x r) (fun k => g (ix1 k)) j := by
  unfold whole divided square
  rw [mulf_apply, broadcastInDim_apply ![0, 1] bcast_S1x1024_S2048x1024_0_1 _ _ (ix2 (0 : Fin 1) j) (by intro a; fin_cases a <;> rfl),
    broadcastInDim_apply ![1] bcast_S1024_S1x1024_1 _ _ (ix1 j) (by intro a; fin_cases a; rfl)]
  refine congrArg₂ (· * ·) ?_ rfl
  show Ideal.div (both x (ix2 r j)) _ = _
  rw [both_apply, broadcastInDim_apply ![0, 1] bcast_S2048x1_S2048x1024_0_1 _ _ (ix2 r (0 : Fin 1)) (by intro a; fin_cases a <;> rfl)]
  refine congrArg (fun t => Ideal.div (sumRow x r j) (Ideal.sqrt t)) ?_
  rw [addf_apply]
  refine congrArg₂ (· + ·) ?_ rfl
  refine congrArg₂ Ideal.div ?_ rfl
  rw [broadcastInDim_apply ![0] bcast_S2048_S2048x1_0 _ _ (ix1 r) (by intro a; fin_cases a; rfl)]
  exact squares_apply x r

end Cert.Exchange

end
-- ==== Proof.Value.lean ====
/-
# The kernel's result is the reference's

Where each device's arrays are its parts of the whole ones, its result is its half of the reference's.
-/
module

public import Idealize.ShloMosaic.Lib.Layout
public import proofs.«01_k».proof.Proof.Result
public import proofs.«01_k».proof.Proof.Ends
public import proofs.«01_k».proof.Proof.Whole

@[expose] public section

noncomputable section

namespace Cert.Exchange

open Cert.KernelIdeal Cert.KernelIdeal.Gen

open Idealize.ShloMosaic
open Idealize.ShloMosaic.TcCoe
open Idealize.ShloMosaic.ValueIdx

variable (m : (ℓ : Loc nD τ sig) → Buf (Elt Ideal) ℓ) (ρ : Dev nD → PrngReg)

variable (x : (⟨3, ![2, 2048, 1024]⟩ : Shape).Idx → EReal) (g : (⟨1, ![1024]⟩ : Shape).Idx → EReal)

/-- A device's place along y, in the whole arrays' cut. -/
theorem lin_dy : ∀ c : Dev nD, Layout.meshLin [2, 2, 4] c.val [1] = dy c := by decide +kernel

/-- Every device's arrays are its parts of the whole ones. -/
def Parts : Prop := ∀ c : Dev nD,
  m ((c.tc : Thread nD τ).loc main_arg0) = Layout.blockN ⟨3, ![1, 2048, 1024]⟩ ⟨3, ![2, 2048, 1024]⟩ (Layout.meshBlock [2, 2, 4] ![[1], [], []] c) x
    ∧ m ((c.tc : Thread nD τ).loc main_arg1) = g

variable {m x g} (hp : Parts m x g)
include hp

/-- A device's own summand of row r is its y place's slice of the whole array. -/
theorem own_eq (c : Dev nD) (r : Fin 2048) (k : Fin 1024) : own m ρ c r k = x (ix3 (⟨dy c, dy_lt c⟩ : Fin 2) r k) := by
  show (pstg m ρ c : S1x2048x1024.Idx → EReal) _ = _
  rw [pstg_eq, (hp c).1]
  refine congrArg x (funext fun b => Fin.ext ?_)
  fin_cases b
  · show Layout.meshLin [2, 2, 4] c.val [1] * 1 + 0 = dy c
    rw [lin_dy]; omega
  · show 0 * 2048 + r.val = r.val
    omega
  · show 0 * 1024 + k.val = k.val
    omega

/-- Its own row and its y peer's add up to the row summed over the cut axis. -/
theorem pair_eq (c d : Dev nD) (hd : dy d = 1 - dy c) (r : Fin 2048) : (fun k => own m ρ c r k + own m ρ d r k) = sumRow x r := by
  funext k
  rw [own_eq ρ hp, own_eq ρ hp]
  unfold sumRow
  have h := dy_lt c
  rcases (by omega : dy c = 0 ∨ dy c = 1) with h0 | h0
  · rw [show (⟨dy c, dy_lt c⟩ : Fin 2) = 0 from Fin.ext h0, show (⟨dy d, dy_lt d⟩ : Fin 2) = 1 from Fin.ext (by show dy d = 1; omega)]
  · rw [show (⟨dy c, dy_lt c⟩ : Fin 2) = 1 from Fin.ext h0, show (⟨dy d, dy_lt d⟩ : Fin 2) = 0 from Fin.ext (by show dy d = 0; omega), add_comm]

/-- Each entry of a device's result is the reference's entry at its place in the whole. -/
theorem entry_eq (c : Dev nD) (i j : Fin 1024) (r : Fin 2048) (hr : r.val = 1024 * dy c + i.val) :
    outAt m ρ c (ix2 i j) = whole x g (ix2 r j) := by
  obtain ⟨d, hd, e⟩ := outAt_apply m ρ c i r hr j
  refine e.trans ?_
  rw [pair_eq ρ hp c d hd, scaled_eq, gstg_eq, (hp c).2]
  exact (whole_apply x g r j).symm

/-- A device's result is its block of the reference's. -/
theorem result_eq (c : Dev nD) :
    outAt m ρ c = Layout.blockN ⟨2, ![1024, 1024]⟩ ⟨2, ![2048, 1024]⟩ (Layout.meshBlock [2, 2, 4] ![[1], []] c) (whole x g) := by
  funext i
  rw [eq_ix2 (i : (⟨2, ![1024, 1024]⟩ : Shape).Idx)]
  have hy := dy_lt c
  have hi : (i 0).val < 1024 := (i 0).isLt
  refine (entry_eq ρ hp c (i 0) (i 1) ⟨1024 * dy c + (i 0).val, by omega⟩ rfl).trans ?_
  refine congrArg (whole x g) (funext fun b => Fin.ext ?_)
  fin_cases b
  · show 1024 * dy c + (i 0).val = Layout.meshLin [2, 2, 4] c.val [1] * 1024 + (i 0).val
    rw [lin_dy]; omega
  · show (i 1).val = 0 * 1024 + (i 1).val
    omega

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The two printed kernels are one text: their body tables agree, label by label. -/
theorem table_eq : @Cert.Kernel.defs₀ Bits _ _ = @Cert.KernelIdeal.defs₀ Bits _ _ := by
  refine congrArg Defs.onTc ?_
  funext l
  fin_cases l
  funext a
  rfl

/-- And so do the tables with the call's own labels added. -/
theorem defs_eq : @Cert.Kernel.defs Bits _ _ = @Cert.KernelIdeal.defs Bits _ _ := congrArg _ table_eq

/-- The kernel's frame is the run over any float values, read at the floats' words. -/
theorem frame_kernel : Cert.quiescent_Kernel := fun m ρ _ => by
  rw [defs_eq]
  exact (θ_run Cert.KernelIdeal.defs _ _).mono (fun _ h => ⟨fun c => (h.1 c).2, h.2⟩) (Cert.Exchange.run_ends (F := Bits) m ρ)

/-- The idealized kernel's frame is the same run over the extended reals. -/
theorem frame_ideal : Cert.quiescent_KernelIdeal := fun m ρ _ =>
  (θ_run Cert.KernelIdeal.defs _ _).mono (fun _ h => ⟨fun c => (h.1 c).2, h.2⟩) (Cert.Exchange.run_ends (F := Ideal) m ρ)

/-- The reference's frame is its generated run. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each device ends with its half of what the reference ends with. -/
theorem equal_results : Cert.algebraic_KernelIdeal_ReferenceIdeal := fun m ρ m' ρ' _ hargs =>
  ⟨Cert.Exchange.whole _ _,
    (θ_run Cert.KernelIdeal.defs _ _).mono (fun _ h c => ⟨(h.1 c).1.trans (Cert.Exchange.result_eq ρ hargs c), (h.1 c).2⟩)
      (Cert.Exchange.run_ends (F := Ideal) m ρ),
    (θ_run Cert.ReferenceIdeal.defs _ _).mono (fun _ h => h 0) (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
